-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "exp2_scale" .f32 0x3E0293EE#32 (((Real.sqrt 128)⁻¹ * (Real.log 2)⁻¹ : ℝ) : EReal)

def preserves_Reference_ReferenceIdeal : Prop :=
  IdealRules.named_const.Statement Cert.ReferenceIdeal.κ "sm_scale" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S32x1x16384 : Shape := ⟨3, ![32, 1, 16384]⟩
abbrev S32x1x16x128 : Shape := ⟨4, ![32, 1, 16, 128]⟩
abbrev S32x2048x16x128 : Shape := ⟨4, ![32, 2048, 16, 128]⟩
abbrev S32x2048x16 : Shape := ⟨3, ![32, 2048, 16]⟩
abbrev S32x128x128 : Shape := ⟨3, ![32, 128, 128]⟩
abbrev S32x32768x128 : Shape := ⟨3, ![32, 32768, 128]⟩
abbrev S32x16x2048 : Shape := ⟨3, ![32, 16, 2048]⟩
abbrev S128x128 : Shape := ⟨2, ![128, 128]⟩
abbrev S_ : Shape := ⟨0, ![]⟩
abbrev S128x128x4 : Shape := ⟨3, ![128, 128, 4]⟩
abbrev S128x512 : Shape := ⟨2, ![128, 512]⟩
abbrev S32x16x128 : Shape := ⟨3, ![32, 16, 128]⟩
abbrev S32x16x1 : Shape := ⟨3, ![32, 16, 1]⟩
abbrev S1x128x128 : Shape := ⟨3, ![1, 128, 128]⟩
abbrev S1x16x128 : Shape := ⟨3, ![1, 16, 128]⟩
abbrev S1x32768x128 : Shape := ⟨3, ![1, 32768, 128]⟩
abbrev S1x16x2048 : Shape := ⟨3, ![1, 16, 2048]⟩
abbrev S1x16x1 : Shape := ⟨3, ![1, 16, 1]⟩
abbrev S16x128 : Shape := ⟨2, ![16, 128]⟩
abbrev S16 : Shape := ⟨1, ![16]⟩
abbrev S16x1 : Shape := ⟨2, ![16, 1]⟩
abbrev S32768x128 : Shape := ⟨2, ![32768, 128]⟩
abbrev S8192x128 : Shape := ⟨2, ![8192, 128]⟩
abbrev S32x512 : Shape := ⟨2, ![32, 512]⟩
abbrev S16x512 : Shape := ⟨2, ![16, 512]⟩
abbrev S1x32x128 : Shape := ⟨3, ![1, 32, 128]⟩
abbrev S32x128 : Shape := ⟨2, ![32, 128]⟩
abbrev S2048x4x128 : Shape := ⟨3, ![2048, 4, 128]⟩
abbrev S2048x1x128 : Shape := ⟨3, ![2048, 1, 128]⟩
abbrev S2048x128 : Shape := ⟨2, ![2048, 128]⟩
abbrev S128x2048 : Shape := ⟨2, ![128, 2048]⟩
abbrev S512x2048 : Shape := ⟨2, ![512, 2048]⟩
abbrev S1x4x2048 : Shape := ⟨3, ![1, 4, 2048]⟩
abbrev S4x2048 : Shape := ⟨2, ![4, 2048]⟩
abbrev S16x2048 : Shape := ⟨2, ![16, 2048]⟩
abbrev S32x2048 : Shape := ⟨2, ![32, 2048]⟩
abbrev S4x128 : Shape := ⟨2, ![4, 128]⟩
abbrev S4x1x128 : Shape := ⟨3, ![4, 1, 128]⟩
abbrev S4x8x128 : Shape := ⟨3, ![4, 8, 128]⟩
abbrev S32 : Shape := ⟨1, ![32]⟩
abbrev S32x1 : Shape := ⟨2, ![32, 1]⟩
abbrev S4x512 : Shape := ⟨2, ![4, 512]⟩
abbrev S4x1x512 : Shape := ⟨3, ![4, 1, 512]⟩
abbrev S4x8x512 : Shape := ⟨3, ![4, 8, 512]⟩

abbrev nBuf : Space → Nat
  | .hbm => 28
  | .vmem => 25
  | .smem => 0
  | _ => 0

abbrev bufTy : (tb : Table) → Fin (tcTables nBuf tb) → BufTy
  | .hbm, ⟨0, _⟩ => ⟨S32x1x16384, .bf16⟩
  | .hbm, ⟨1, _⟩ => ⟨S32x1x16x128, .bf16⟩
  | .hbm, ⟨2, _⟩ => ⟨S32x1x16x128, .bf16⟩
  | .hbm, ⟨3, _⟩ => ⟨S32x2048x16x128, .i8⟩
  | .hbm, ⟨4, _⟩ => ⟨S32x2048x16, .f32⟩
  | .hbm, ⟨5, _⟩ => ⟨S32x2048x16x128, .i8⟩
  | .hbm, ⟨6, _⟩ => ⟨S32x2048x16, .f32⟩
  | .hbm, ⟨7, _⟩ => ⟨S32x128x128, .bf16⟩
  | .hbm, ⟨8, _⟩ => ⟨S32x32768x128, .i8⟩
  | .hbm, ⟨9, _⟩ => ⟨S32x32768x128, .i8⟩
  | .hbm, ⟨10, _⟩ => ⟨S32x16x2048, .f32⟩
  | .hbm, ⟨11, _⟩ => ⟨S32x16x2048, .f32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S128x128, .bf16⟩
  | .hbm, ⟨19, _⟩ => ⟨S128x128x4, .bf16⟩
  | .hbm, ⟨20, _⟩ => ⟨S128x512, .bf16⟩
  | .hbm, ⟨21, _⟩ => ⟨S32x16x128, .bf16⟩
  | .hbm, ⟨22, _⟩ => ⟨S32x16x128, .bf16⟩
  | .hbm, ⟨23, _⟩ => ⟨S32x128x128, .bf16⟩
  | .hbm, ⟨24, _⟩ => ⟨S32x16x128, .i8⟩
  | .hbm, ⟨25, _⟩ => ⟨S32x16x1, .f32⟩
  | .hbm, ⟨26, _⟩ => ⟨S32x16x128, .i8⟩
  | .hbm, ⟨27, _⟩ => ⟨S32x16x1, .f32⟩
  | .local _ .vmem, ⟨0, _⟩ => ⟨S1x128x128, .bf16⟩
  | .local _ .vmem, ⟨1, _⟩ => ⟨S1x128x128, .bf16⟩
  | .local _ .vmem, ⟨2, _⟩ => ⟨S1x16x128, .bf16⟩
  | .local _ .vmem, ⟨3, _⟩ => ⟨S1x16x128, .bf16⟩
  | .local _ .vmem, ⟨4, _⟩ => ⟨S1x16x128, .bf16⟩
  | .local _ .vmem, ⟨5, _⟩ => ⟨S1x16x128, .bf16⟩
  | .local _ .vmem, ⟨6, _⟩ => ⟨S1x32768x128, .i8⟩
  | .local _ .vmem, ⟨7, _⟩ => ⟨S1x32768x128, .i8⟩
  | .local _ .vmem, ⟨8, _⟩ => ⟨S1x16x2048, .f32⟩
  | .local _ .vmem, ⟨9, _⟩ => ⟨S1x16x2048, .f32⟩
  | .local _ .vmem, ⟨10, _⟩ => ⟨S1x32768x128, .i8⟩
  | .local _ .vmem, ⟨11, _⟩ => ⟨S1x32768x128, .i8⟩
  | .local _ .vmem, ⟨12, _⟩ => ⟨S1x16x2048, .f32⟩
  | .local _ .vmem, ⟨13, _⟩ => ⟨S1x16x2048, .f32⟩
  | .local _ .vmem, ⟨14, _⟩ => ⟨S128x512, .bf16⟩
  | .local _ .vmem, ⟨15, _⟩ => ⟨S1x128x128, .bf16⟩
  | .local _ .vmem, ⟨16, _⟩ => ⟨S1x128x128, .bf16⟩
  | .local _ .vmem, ⟨17, _⟩ => ⟨S1x16x128, .i8⟩
  | .local _ .vmem, ⟨18, _⟩ => ⟨S1x16x128, .i8⟩
  | .local _ .vmem, ⟨19, _⟩ => ⟨S1x16x1, .f32⟩
  | .local _ .vmem, ⟨20, _⟩ => ⟨S1x16x1, .f32⟩
  | .local _ .vmem, ⟨21, _⟩ => ⟨S1x16x128, .i8⟩
  | .local _ .vmem, ⟨22, _⟩ => ⟨S1x16x128, .i8⟩
  | .local _ .vmem, ⟨23, _⟩ => ⟨S1x16x1, .f32⟩
  | .local _ .vmem, ⟨24, _⟩ => ⟨S1x16x1, .f32⟩
  | _, _ => ⟨S32x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32768x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32768x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "exp2_scale" => some (((Real.sqrt 128)⁻¹ * (Real.log 2)⁻¹ : ℝ) : EReal)
  | _ => none
-- ==== ReferenceIdeal.lean ====
variable {F : FTy → Type} [FloatOps F] [Named F]
def κ : String → Option EReal := fun
  | "sm_scale" => some (((Real.sqrt 128)⁻¹ : ℝ) : EReal)
  | _ => none
-- ==== Reference.lean ====
abbrev S32x1x16384 : Shape := ⟨3, ![32, 1, 16384]⟩
abbrev S32x1x16x128 : Shape := ⟨4, ![32, 1, 16, 128]⟩
abbrev S32x2048x16x128 : Shape := ⟨4, ![32, 2048, 16, 128]⟩
abbrev S32x2048x16 : Shape := ⟨3, ![32, 2048, 16]⟩
abbrev S32x1x16x8x128 : Shape := ⟨5, ![32, 1, 16, 8, 128]⟩
abbrev S32x128x128 : Shape := ⟨3, ![32, 128, 128]⟩
abbrev S32x16x128 : Shape := ⟨3, ![32, 16, 128]⟩
abbrev S32x16x1 : Shape := ⟨3, ![32, 16, 1]⟩
abbrev S32x1x16 : Shape := ⟨3, ![32, 1, 16]⟩
abbrev S32x1x16x1 : Shape := ⟨4, ![32, 1, 16, 1]⟩
abbrev S32x2048x16x1 : Shape := ⟨4, ![32, 2048, 16, 1]⟩
abbrev S32x16x8x1 : Shape := ⟨4, ![32, 16, 8, 1]⟩
abbrev S32x16x8x1x128 : Shape := ⟨5, ![32, 16, 8, 1, 128]⟩
abbrev S32x1024x16x128 : Shape := ⟨4, ![32, 1024, 16, 128]⟩
abbrev S32x16x1024x1x8 : Shape := ⟨5, ![32, 16, 1024, 1, 8]⟩
abbrev S32x16x8x1x1024 : Shape := ⟨5, ![32, 16, 8, 1, 1024]⟩
abbrev S32x16x8x1x1 : Shape := ⟨5, ![32, 16, 8, 1, 1]⟩
abbrev S1x1 : Shape := ⟨2, ![1, 1]⟩
abbrev S32x16x1x1x8 : Shape := ⟨5, ![32, 16, 1, 1, 8]⟩
abbrev S1x1x1x1x1 : Shape := ⟨5, ![1, 1, 1, 1, 1]⟩

abbrev nBuf : Space → Nat
  | .hbm => 13
  | .vmem => 12
  | .smem => 0
  | _ => 0

abbrev bufTy : (tb : Table) → Fin (tcTables nBuf tb) → BufTy
  | .hbm, ⟨0, _⟩ => ⟨S32x1x16384, .bf16⟩
  | .hbm, ⟨1, _⟩ => ⟨S32x1x16x128, .bf16⟩
  | .hbm, ⟨2, _⟩ => ⟨S32x1x16x128, .bf16⟩
  | .hbm, ⟨3, _⟩ => ⟨S32x2048x16x128, .i8⟩
  | .hbm, ⟨4, _⟩ => ⟨S32x2048x16, .f32⟩
  | .hbm, ⟨5, _⟩ => ⟨S32x2048x16x128, .i8⟩
  | .hbm, ⟨6, _⟩ => ⟨S32x2048x16, .f32⟩
  | .hbm, ⟨7, _⟩ => ⟨S32x1x16x8x128, .bf16⟩
  | .hbm, ⟨8, _⟩ => ⟨S32x128x128, .bf16⟩
  | .hbm, ⟨9, _⟩ => ⟨S32x16x128, .i8⟩
  | .hbm, ⟨10, _⟩ => ⟨S32x16x1, .f32⟩
  | .hbm, ⟨11, _⟩ => ⟨S32x16x128, .i8⟩
  | .hbm, ⟨12, _⟩ => ⟨S32x16x1, .f32⟩
  | .local _ .vmem, ⟨0, _⟩ => ⟨S32x1x16x8x128, .bf16⟩
  | .local _ .vmem, ⟨1, _⟩ => ⟨S32x1x16x128, .bf16⟩
  | .local _ .vmem, ⟨2, _⟩ => ⟨S32x1x16x128, .bf16⟩
  | .local _ .vmem, ⟨3, _⟩ => ⟨S32x2048x16x128, .i8⟩
  | .local _ .vmem, ⟨4, _⟩ => ⟨S32x2048x16, .f32⟩
  | .local _ .vmem, ⟨5, _⟩ => ⟨S32x2048x16x128, .i8⟩
  | .local _ .vmem, ⟨6, _⟩ => ⟨S32x2048x16, .f32⟩
  | .local _ .vmem, ⟨7, _⟩ => ⟨S32x128x128, .bf16⟩
  | .local _ .vmem, ⟨8, _⟩ => ⟨S32x16x128, .i8⟩
  | .local _ .vmem, ⟨9, _⟩ => ⟨S32x16x1, .f32⟩
  | .local _ .vmem, ⟨10, _⟩ => ⟨S32x16x128, .i8⟩
  | .local _ .vmem, ⟨11, _⟩ => ⟨S32x16x1, .f32⟩
  | _, _ => ⟨S32x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S32x1x16x8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x16x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2048x16x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x2048x16x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x16x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.QuadDef.lean ====
/- One quad of four KV heads of the kernel, as a function of the quad's number: the same vector operations the four
   unrolled copies of the body perform, at row offset `kq` of the words and `o = 4 kq` of the new-token rows. -/
module

public import proofs.«01_k».proof.Proof.Gen.KernelIdeal.Skeleton

@[expose] public section

noncomputable section

namespace Cert.KernelIdeal.Quad

open Cert.KernelIdeal Cert.KernelIdeal.Gen Idealize.ShloMosaic

/-- The quad's int8 codes, feature-major: the words of row offset `kq`, transposed, read as bytes. -/
def codes (kq : ℕ) (h : S2048x4x128.Slices ![0, kq, 0] S2048x1x128) (W : IVec S8192x128 32) : IVec S512x2048 8 :=
  bitcast S512x2048 8 (transpose S128x2048 [1, 0] (shapeCast S2048x128 (extractStridedSlice S2048x1x128 ![0, kq, 0]
    (shapeCast S2048x4x128 W shapeCasts_S8192x128_S2048x4x128) h) shapeCasts_S2048x1x128_S2048x128)
    transposes_S2048x128_p1_0_S128x2048) bitcasts_S128x2048_w32_S512x2048_w8

/-- The four scale rows repeated down sixteen rows. -/
def srows (s : Vec Ideal S1x4x2048 .f32) : FVec Ideal S16x2048 .bf16 :=
  concatenate S16x2048 0 [⟨S4x2048, truncf .bf16 (shapeCast S4x2048 s shapeCasts_S1x4x2048_S4x2048) bitsLt_bf16_f32⟩,
    ⟨S4x2048, truncf .bf16 (shapeCast S4x2048 s shapeCasts_S1x4x2048_S4x2048) bitsLt_bf16_f32⟩,
    ⟨S4x2048, truncf .bf16 (shapeCast S4x2048 s shapeCasts_S1x4x2048_S4x2048) bitsLt_bf16_f32⟩,
    ⟨S4x2048, truncf .bf16 (shapeCast S4x2048 s shapeCasts_S1x4x2048_S4x2048) bitsLt_bf16_f32⟩]
    concatenates_S4x2048_S4x2048_S4x2048_S4x2048_S16x2048_d0

/-- The dequantised codes. -/
def scaled (C : IVec S512x2048 8) (s : Vec Ideal S1x4x2048 .f32) : FVec Ideal S512x2048 .bf16 :=
  shapeCast S512x2048 (mulf (shapeCast S32x16x2048 (sitofp (F := Ideal) .bf16 C) shapeCasts_S512x2048_S32x16x2048)
    (broadcastTo S32x16x2048 (shapeCast S1x16x2048 (srows s) shapeCasts_S16x2048_S1x16x2048)
      broadcasts_S1x16x2048_S32x16x2048)) shapeCasts_S32x16x2048_S512x2048

/-- The quad's query rows. -/
def rows (Q : Vec Ideal S1x32x128 .bf16) : FVec Ideal S32x128 .bf16 := shapeCast S32x128 Q shapeCasts_S1x32x128_S32x128

/-- The query rows spread over the four heads' lanes, own lanes kept. -/
def spread (E : FVec Ideal S128x512 .bf16) (own : IVec S32x512 1) (Q : FVec Ideal S32x128 .bf16) : FVec Ideal S32x512 .bf16 :=
  truncf .bf16 (select own (matmul dot_S32x128_S128x512_S32x512_1_0_0_1_n_n none Q E (constant (F := Ideal) S32x512 .f32 0x00000000#32))
    (broadcast S32x512 (Scalar.ofBits (F := Ideal) .f32 0x00000000#32))) bitsLt_bf16_f32

/-- The scores over the cached positions. -/
def scores (qx : FVec Ideal S32x512 .bf16) (K : FVec Ideal S512x2048 .bf16) : FVec Ideal S32x2048 .f32 :=
  matmul dot_S32x512_S512x2048_S32x2048_1_0_0_1_n_n none qx K (constant (F := Ideal) S32x2048 .f32 0x00000000#32)

/-- The new token's scores. -/
def snew (o : ℕ) (h : S16x128.Slices ![o, 0] S4x128) (kn : FVec Ideal S16x128 .f32) (Q : FVec Ideal S32x128 .bf16) : FVec Ideal S32x1 .f32 :=
  shapeCast S32x1 (multiReduction (F := Ideal) .add [1] S32 (mulf (extf .f32 Q bitsLt_bf16_f32)
    (shapeCast S32x128 (broadcastTo S4x8x128 (shapeCast S4x1x128 (extractStridedSlice S4x128 ![o, 0] kn h)
      shapeCasts_S4x128_S4x1x128) broadcasts_S4x1x128_S4x8x128) shapeCasts_S4x8x128_S32x128))
    0x00000000#32 reduces_S32x128_S32 (.inl rfl) rfl) shapeCasts_S32_S32x1

/-- The row maxima. -/
def rmax (s : FVec Ideal S32x2048 .f32) (sn : FVec Ideal S32x1 .f32) : FVec Ideal S32x1 .f32 :=
  maximumf (shapeCast S32x1 (multiReduction (F := Ideal) .maximumf [1] S32 s 0xFF800000#32 reduces_S32x2048_S32 (.inl rfl) rfl) shapeCasts_S32_S32x1) sn

/-- The weights of the cached positions. -/
def pcache (s : FVec Ideal S32x2048 .f32) (m : FVec Ideal S32x1 .f32) : FVec Ideal S32x2048 .f32 :=
  exp2 (mulf (subf s (broadcastTo S32x2048 m broadcasts_S32x1_S32x2048))
    (broadcast S32x2048 (Named.named (F := Ideal) κ "exp2_scale" (φ := .f32) 0x3E0293EE#32)))

/-- The weight of the new token. -/
def pnew (sn m : FVec Ideal S32x1 .f32) : FVec Ideal S32x1 .f32 :=
  exp2 (mulf (subf sn m) (broadcast S32x1 (Named.named (F := Ideal) κ "exp2_scale" (φ := .f32) 0x3E0293EE#32)))

/-- The normaliser. -/
def lsum (p : FVec Ideal S32x2048 .f32) (pn : FVec Ideal S32x1 .f32) : FVec Ideal S32x1 .f32 :=
  addf (shapeCast S32x1 (multiReduction (F := Ideal) .add [1] S32 p 0x00000000#32 reduces_S32x2048_S32 (.inl rfl) rfl) shapeCasts_S32_S32x1) pn

/-- The normalised weighted sums, over all four heads' lanes. -/
def mix (o : ℕ) (h : S16x512.Slices ![o, 0] S4x512) (vnx : FVec Ideal S16x512 .f32) (p : FVec Ideal S32x2048 .f32)
    (pn l : FVec Ideal S32x1 .f32) (V : FVec Ideal S512x2048 .bf16) : FVec Ideal S32x512 .f32 :=
  divf (addf (matmul dot_S32x2048_S512x2048_S32x512_1_1_0_0_n_n none p V (constant (F := Ideal) S32x512 .f32 0x00000000#32))
    (mulf (broadcastTo S32x512 pn broadcasts_S32x1_S32x512)
      (shapeCast S32x512 (broadcastTo S4x8x512 (shapeCast S4x1x512 (extractStridedSlice S4x512 ![o, 0] vnx h)
        shapeCasts_S4x512_S4x1x512) broadcasts_S4x1x512_S4x8x512) shapeCasts_S4x8x512_S32x512)))
    (broadcastTo S32x512 l broadcasts_S32x1_S32x512)

/-- The own lanes gathered back to the head's columns. -/
def gather (E : FVec Ideal S128x512 .bf16) (own : IVec S32x512 1) (Y : FVec Ideal S32x512 .f32) : FVec Ideal S1x32x128 .bf16 :=
  shapeCast S1x32x128 (truncf .bf16 (matmul dot_S32x512_S128x512_S32x128_1_1_0_0_n_n none
    (truncf .bf16 (select own Y (broadcast S32x512 (Scalar.ofBits (F := Ideal) .f32 0x00000000#32))) bitsLt_bf16_f32) E
    (constant (F := Ideal) S32x128 .f32 0x00000000#32)) bitsLt_bf16_f32) shapeCasts_S32x128_S1x32x128

section
variable (kq o : ℕ) (h1 : S2048x4x128.Slices ![0, kq, 0] S2048x1x128) (h2 : S16x128.Slices ![o, 0] S4x128)
  (h3 : S16x512.Slices ![o, 0] S4x512) (E : FVec Ideal S128x512 .bf16) (own : IVec S32x512 1) (kn : FVec Ideal S16x128 .f32)
  (vnx : FVec Ideal S16x512 .f32) (kw vw : IVec S8192x128 32) (Q : Vec Ideal S1x32x128 .bf16) (ks vs : Vec Ideal S1x4x2048 .f32)

/-- The quad's scores, maxima, weights and normaliser. -/
def qs : FVec Ideal S32x2048 .f32 := scores (spread E own (rows Q)) (scaled (codes kq h1 kw) ks)
def qsn : FVec Ideal S32x1 .f32 := snew o h2 kn (rows Q)
def qm : FVec Ideal S32x1 .f32 := rmax (qs kq h1 E own kw Q ks) (qsn o h2 kn Q)
def qp : FVec Ideal S32x2048 .f32 := pcache (qs kq h1 E own kw Q ks) (qm kq o h1 h2 E own kn kw Q ks)
def qpn : FVec Ideal S32x1 .f32 := pnew (qsn o h2 kn Q) (qm kq o h1 h2 E own kn kw Q ks)
def ql : FVec Ideal S32x1 .f32 := lsum (qp kq o h1 h2 E own kn kw Q ks) (qpn kq o h1 h2 E own kn kw Q ks)

/-- The quad's 32 output rows. -/
def quad : FVec Ideal S1x32x128 .bf16 :=
  gather E own (mix o h3 vnx (qp kq o h1 h2 E own kn kw Q ks) (qpn kq o h1 h2 E own kn kw Q ks)
    (ql kq o h1 h2 E own kn kw Q ks) (scaled (codes kq h1 vw) vs))
end

end Cert.KernelIdeal.Quad

end
-- ==== Proof.Softmax.lean ====
/- One attention row over the extended reals: the kernel's closed form (one maximum over all positions, base-2
   exponentials) against the reference's online softmax (two blocks of 1024 cached positions, then the new token). Both
   are functions of the scores `s`, `sn` and of one value column `v`, `vn`; `ker_eq_ref` says they agree on every input,
   infinities included. -/
module

public import Idealize.ShloMosaic.PureOps.Ideal
public import Idealize.ShloMosaic.Lib.Pointwise

@[expose] public section

noncomputable section

namespace Cert.Softmax

open Idealize.ShloMosaic

/-- The softmax scale `1 / √128`. -/
abbrev sm : EReal := (((Real.sqrt 128)⁻¹ : ℝ) : EReal)

/-- The same scale for base-2 exponentials. -/
abbrev c2 : EReal := (((Real.sqrt 128)⁻¹ * (Real.log 2)⁻¹ : ℝ) : EReal)

/-- The maximum of a row of values. -/
def fmax {ι : Type} [Fintype ι] (f : ι → EReal) : EReal := Finset.univ.sup f

/-- The kernel's row: one maximum `M`, weights `2 ^ ((s - M) c2)`, the weighted sum over their sum. -/
def ker (s : Fin 2048 → EReal) (sn : EReal) (v : Fin 2048 → EReal) (vn : EReal) : EReal :=
  Ideal.div ((∑ t, Ideal.exp2 ((s t - max (fmax s) sn) * c2) * v t)
      + Ideal.exp2 ((sn - max (fmax s) sn) * c2) * vn)
    ((∑ t, Ideal.exp2 ((s t - max (fmax s) sn) * c2))
      + Ideal.exp2 ((sn - max (fmax s) sn) * c2))

/-- The first and the second half of the positions. -/
abbrev lo (t : Fin 1024) : Fin 2048 := ⟨t.val, by omega⟩
abbrev hi (t : Fin 1024) : Fin 2048 := ⟨1024 + t.val, by omega⟩

/-- The running maxima of the reference. -/
def m1 (u : Fin 2048 → EReal) : EReal := max ⊥ (fmax fun t => u (lo t))
def m2 (u : Fin 2048 → EReal) : EReal := max (m1 u) (fmax fun t => u (hi t))
def m3 (u : Fin 2048 → EReal) (un : EReal) : EReal := max (m2 u) (fmax fun _ : Fin 1 => un)

/-- The running weighted sum after the two cached blocks (the running normaliser at weights `w = 1`). -/
def acc2 (u w : Fin 2048 → EReal) : EReal :=
  Ideal.exp (m1 u - m2 u) * (Ideal.exp (⊥ - m1 u) * 0 + ∑ t, Ideal.exp (u (lo t) - m1 u) * w (lo t))
    + ∑ t, Ideal.exp (u (hi t) - m2 u) * w (hi t)

theorem exp_coe (r : ℝ) : Ideal.exp (r : EReal) = (Real.exp r : EReal) := rfl
theorem exp_bot : Ideal.exp ⊥ = 0 := rfl
theorem exp_top : Ideal.exp ⊤ = ⊤ := rfl
theorem exp2_coe (r : ℝ) : Ideal.exp2 (r : EReal) = (Real.rpow 2 r : EReal) := rfl
theorem exp2_bot : Ideal.exp2 ⊥ = 0 := rfl
theorem exp2_top : Ideal.exp2 ⊤ = ⊤ := rfl

theorem sm_pos : 0 < ((Real.sqrt 128)⁻¹ : ℝ) := by positivity
theorem log2_pos : 0 < (Real.log 2 : ℝ) := Real.log_pos (by norm_num)

/-- Two exponentials in a row combine, for ordered arguments. -/
theorem exp_mul_exp {x m m' : EReal} (h : x ≤ m) (h' : m ≤ m') :
    Ideal.exp (m - m') * Ideal.exp (x - m) = Ideal.exp (x - m') := by
  induction m' with
  | bot =>
    obtain rfl : m = ⊥ := le_bot_iff.mp h'
    obtain rfl : x = ⊥ := le_bot_iff.mp h
    simp [exp_bot]
  | top => simp [EReal.sub_top, exp_bot]
  | coe c =>
    induction m with
    | top => exact absurd h' (by simp)
    | bot =>
      obtain rfl : x = ⊥ := le_bot_iff.mp h
      simp [exp_bot]
    | coe b =>
      induction x with
      | top => exact absurd h (by simp)
      | bot => simp [exp_bot]
      | coe a =>
        rw [← EReal.coe_sub, ← EReal.coe_sub, ← EReal.coe_sub, exp_coe, exp_coe, exp_coe, ← EReal.coe_mul, ← Real.exp_add]
        congr 2
        ring

theorem exp_nonneg (x : EReal) : 0 ≤ Ideal.exp x := by
  induction x with
  | bot => simp [exp_bot]
  | top => simp [exp_top]
  | coe a => rw [exp_coe]; exact_mod_cast (Real.exp_pos a).le

theorem exp_ne_top {m m' : EReal} (h : m ≤ m') : Ideal.exp (m - m') ≠ ⊤ := by
  induction m' with
  | bot =>
    obtain rfl : m = ⊥ := le_bot_iff.mp h
    simp [exp_bot]
  | top => simp [EReal.sub_top, exp_bot]
  | coe c =>
    induction m with
    | top => exact absurd h (by simp)
    | bot => simp [exp_bot]
    | coe b => rw [← EReal.coe_sub, exp_coe]; exact EReal.coe_ne_top _

/-- A nonnegative finite factor goes under a sum. -/
theorem mul_sum_of_nonneg {ι : Type} (S : Finset ι) (a : EReal) (h0 : 0 ≤ a) (ht : a ≠ ⊤) (f : ι → EReal) :
    a * ∑ i ∈ S, f i = ∑ i ∈ S, a * f i := by
  classical
  induction S using Finset.induction_on with
  | empty => simp
  | insert i S hi ih => rw [Finset.sum_insert hi, Finset.sum_insert hi, EReal.left_distrib_of_nonneg_of_ne_top h0 ht, ih]

/-- Rescaling a block's sum from the maximum `m` to a later one `m'`. -/
theorem rescale {ι : Type} [Fintype ι] (u w : ι → EReal) {m m' : EReal} (h : ∀ t, u t ≤ m) (h' : m ≤ m') :
    Ideal.exp (m - m') * ∑ t, Ideal.exp (u t - m) * w t = ∑ t, Ideal.exp (u t - m') * w t := by
  rw [mul_sum_of_nonneg _ _ (exp_nonneg _) (exp_ne_top h')]
  refine Finset.sum_congr rfl fun t _ => ?_
  rw [← mul_assoc, exp_mul_exp (h t) h']

theorem fmax_eq_sup {ι : Type} [Fintype ι] (f : ι → EReal) : fmax f = Finset.univ.sup f := rfl

/-- The maximum as the fold the vector reduction computes. -/
theorem fold_max {ι : Type} [Fintype ι] (f : ι → Ideal .f32) : Finset.univ.fold max (⊥ : EReal) f = fmax f := rfl

theorem le_fmax {ι : Type} [Fintype ι] (f : ι → EReal) (t : ι) : f t ≤ fmax f := by
  rw [fmax_eq_sup]; exact Finset.le_sup (f := f) (Finset.mem_univ t)

theorem lo_le (u : Fin 2048 → EReal) (t : Fin 1024) : u (lo t) ≤ m1 u :=
  (le_fmax (fun t => u (lo t)) t).trans (le_max_right _ _)
theorem hi_le (u : Fin 2048 → EReal) (t : Fin 1024) : u (hi t) ≤ m2 u :=
  (le_fmax (fun t => u (hi t)) t).trans (le_max_right _ _)
theorem m1_le (u : Fin 2048 → EReal) : m1 u ≤ m2 u := le_max_left _ _
theorem m2_le (u : Fin 2048 → EReal) (un : EReal) : m2 u ≤ m3 u un := le_max_left _ _

/-- A sum over all positions is the sum over its two halves. -/
theorem sum_halves (f : Fin 2048 → EReal) : ∑ t, f t = (∑ t, f (lo t)) + ∑ t, f (hi t) := by
  exact Fin.sum_univ_add (a := 1024) (b := 1024) (f : Fin (1024 + 1024) → EReal)

/-- After both blocks the running sum is the sum over all positions at the running maximum. -/
theorem acc2_eq (u w : Fin 2048 → EReal) : acc2 u w = ∑ t, Ideal.exp (u t - m2 u) * w t := by
  unfold acc2
  rw [mul_zero, zero_add, rescale (fun t => u (lo t)) (fun t => w (lo t)) (lo_le u) (m1_le u), sum_halves]

theorem le_m2 (u : Fin 2048 → EReal) (t : Fin 2048) : u t ≤ m2 u := by
  by_cases h : t.val < 1024
  · exact (lo_le u ⟨t.val, h⟩).trans (m1_le u)
  · have := hi_le u ⟨t.val - 1024, by omega⟩
    have e : hi ⟨t.val - 1024, by omega⟩ = t := Fin.ext (by simp only [hi]; omega)
    rwa [e] at this

/-- The last step, with the new token. -/
theorem acc3_eq (u w : Fin 2048 → EReal) (un wn : EReal) :
    Ideal.exp (m2 u - m3 u un) * acc2 u w + ∑ _x : Fin 1, Ideal.exp (un - m3 u un) * wn
      = (∑ t, Ideal.exp (u t - m3 u un) * w t) + Ideal.exp (un - m3 u un) * wn := by
  rw [acc2_eq, rescale u w (le_m2 u) (m2_le u un)]
  simp

/-- The reference's row. -/
def ref (s : Fin 2048 → EReal) (sn : EReal) (v : Fin 2048 → EReal) (vn : EReal) : EReal :=
  Ideal.div (Ideal.exp (m2 (fun t => s t * sm) - m3 (fun t => s t * sm) (sn * sm)) * acc2 (fun t => s t * sm) v
      + ∑ _x : Fin 1, Ideal.exp (sn * sm - m3 (fun t => s t * sm) (sn * sm)) * vn)
    (Ideal.exp (m2 (fun t => s t * sm) - m3 (fun t => s t * sm) (sn * sm)) * acc2 (fun t => s t * sm) (fun _ => 1)
      + ∑ _x : Fin 1, Ideal.exp (sn * sm - m3 (fun t => s t * sm) (sn * sm)) * 1)

theorem mul_sm_mono : Monotone fun x : EReal => x * sm := fun _ _ h =>
  mul_le_mul_of_nonneg_right h (EReal.coe_nonneg.mpr sm_pos.le)

/-- The scale commutes with the maximum. -/
theorem max_mul_sm (x y : EReal) : max x y * sm = max (x * sm) (y * sm) := mul_sm_mono.map_max

/-- The reference's last maximum is the kernel's, scaled. -/
theorem m3_eq (s : Fin 2048 → EReal) (sn : EReal) :
    m3 (fun t => s t * sm) (sn * sm) = max (fmax s) sn * sm := by
  rw [max_mul_sm]
  apply le_antisymm
  · refine max_le (max_le (max_le bot_le ?_) ?_) ?_
    · rw [fmax_eq_sup]
      exact Finset.sup_le fun t _ => le_max_of_le_left (mul_sm_mono (le_fmax s (lo t)))
    · rw [fmax_eq_sup]
      exact Finset.sup_le fun t _ => le_max_of_le_left (mul_sm_mono (le_fmax s (hi t)))
    · rw [fmax_eq_sup]
      exact Finset.sup_le fun t _ => le_max_right _ _
  · refine max_le ?_ ?_
    · have h : fmax s * sm = Finset.univ.sup fun t => s t * sm := by
        rw [fmax_eq_sup]
        exact Finset.comp_sup_eq_sup_comp (fun x : EReal => x * sm) (fun x y => max_mul_sm x y)
          (EReal.bot_mul_coe_of_pos sm_pos)
      rw [h]
      exact Finset.sup_le fun t _ => (le_m2 (fun t => s t * sm) t).trans (m2_le _ _)
    · exact (le_fmax (fun _ : Fin 1 => sn * sm) 0).trans (le_max_right _ _)

/-- The two exponentials agree. -/
theorem exp2_eq (x m : EReal) : Ideal.exp2 ((x - m) * c2) = Ideal.exp (x * sm - m * sm) := by
  have hc : 0 < ((Real.sqrt 128)⁻¹ * (Real.log 2)⁻¹ : ℝ) := mul_pos sm_pos (inv_pos.mpr log2_pos)
  induction m with
  | top => rw [EReal.sub_top, EReal.bot_mul_coe_of_pos hc, EReal.top_mul_coe_of_pos sm_pos, EReal.sub_top]; rfl
  | bot =>
    induction x with
    | bot =>
      rw [EReal.bot_mul_coe_of_pos sm_pos, EReal.bot_sub, EReal.bot_mul_coe_of_pos hc]; rfl
    | top =>
      rw [EReal.bot_mul_coe_of_pos sm_pos, EReal.top_mul_coe_of_pos sm_pos, EReal.top_sub_bot,
        EReal.top_mul_coe_of_pos hc]; rfl
    | coe a =>
      rw [EReal.bot_mul_coe_of_pos sm_pos, EReal.coe_sub_bot, EReal.top_mul_coe_of_pos hc, ← EReal.coe_mul,
        EReal.coe_sub_bot]; rfl
  | coe b =>
    induction x with
    | bot =>
      rw [EReal.bot_mul_coe_of_pos sm_pos, EReal.bot_sub, EReal.bot_mul_coe_of_pos hc, EReal.bot_sub]; rfl
    | top =>
      rw [EReal.top_mul_coe_of_pos sm_pos, EReal.top_sub_coe, EReal.top_mul_coe_of_pos hc, ← EReal.coe_mul,
        EReal.top_sub_coe]; rfl
    | coe a =>
      rw [← EReal.coe_sub, ← EReal.coe_mul, ← EReal.coe_mul, ← EReal.coe_mul, ← EReal.coe_sub, exp_coe, exp2_coe]
      congr 1
      show (2 : ℝ) ^ ((a - b) * ((Real.sqrt 128)⁻¹ * (Real.log 2)⁻¹)) = Real.exp _
      rw [Real.rpow_def_of_pos (by norm_num)]
      congr 1
      have := log2_pos.ne'
      field_simp

/-- THE ROW: the kernel's closed form is the reference's online softmax, at every input. -/
theorem ker_eq_ref (s : Fin 2048 → EReal) (sn : EReal) (v : Fin 2048 → EReal) (vn : EReal) : ker s sn v vn = ref s sn v vn := by
  unfold ker ref
  rw [acc3_eq, acc3_eq, m3_eq]
  simp only [exp2_eq, mul_one]

end Cert.Softmax

end
-- ==== Proof.QuadAt.lean ====
/- The operations of one quad, each read at an index. -/
module

public import proofs.«01_k».proof.Proof.QuadDef
public import proofs.«01_k».proof.Proof.Softmax
public import Idealize.ShloMosaic.Lib.Pointwise
public import Idealize.ShloMosaic.Lib.BitcastFour

@[expose] public section

set_option maxRecDepth 16384

noncomputable section

namespace Cert.KernelIdeal.Quad

open Cert.KernelIdeal Cert.KernelIdeal.Gen Idealize.ShloMosaic

/-- Thirty-two-bit words read as bytes at rank 2: row `4a + j` of the bytes is byte `j` of word row `a`. -/
theorem bitcast_32_8_getLsbD {R r n : Nat} (x : (⟨2, ![R, n]⟩ : Shape).Idx → BitVec 32)
    (h : (⟨2, ![R, n]⟩ : Shape).Bitcasts 32 ⟨2, ![r, n]⟩ 8) (a : Fin r) (l : Fin n) (q : Nat) (hq : q < 8) (p : Fin R)
    (hp : p.val = a.val / 4) :
    (bitcast ⟨2, ![r, n]⟩ 8 x h (ix2 a l)).getLsbD q = (x (ix2 p l)).getLsbD (8 * (a.val % 4) + q) := by
  rw [bitcast_getLsbD x h _ q hq (by decide)]
  have hrow : (⟨2, ![r, n]⟩ : Shape).row (ix2 a l) = a.val := rfl
  have ep : ((⟨2, ![r, n]⟩ : Shape).row (ix2 a l) * 8 + q) / 32 = p.val := by rw [hrow, hp]; omega
  have eq : ((⟨2, ![r, n]⟩ : Shape).row (ix2 a l) * 8 + q) % 32 = 8 * (a.val % 4) + q := by rw [hrow]; omega
  rw [eq]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (show ¬ 1 + 2 = 2 by decide))

theorem words_at (kq : ℕ) (hk : kq < 4) (W : IVec S8192x128 32) (h : S2048x4x128.Slices ![0, kq, 0] S2048x1x128) (d : Fin 128) (t : Fin 2048) :
    transpose S128x2048 [1, 0] (shapeCast S2048x128 (extractStridedSlice S2048x1x128 ![0, kq, 0] (shapeCast S2048x4x128 W shapeCasts_S8192x128_S2048x4x128) h) shapeCasts_S2048x1x128_S2048x128) transposes_S2048x128_p1_0_S128x2048 (ix2 d t)
      = W (ix2 ⟨4 * t.val + kq, by omega⟩ d) := by
  pointwise
  congr 2
  apply Fin.ext
  show t.val * 4 + kq = 4 * t.val + kq
  omega

/-- The codes: row `r` is feature `r / 4` of the quad's head `r % 4`. -/
theorem codes_at (kq : ℕ) (hk : kq < 4) (h : S2048x4x128.Slices ![0, kq, 0] S2048x1x128) (X : IVec S32768x128 8) (r : Fin 512) (t : Fin 2048) :
    codes kq h (bitcast S8192x128 32 X bitcasts_S32768x128_w8_S8192x128_w32) (ix2 r t)
      = X (ix2 ⟨16 * t.val + (4 * kq + r.val % 4), by omega⟩ ⟨r.val / 4, by omega⟩) := by
  apply BitVec.eq_of_getLsbD_eq
  intro q hq
  unfold codes
  refine (bitcast_32_8_getLsbD (R := 128) (r := 512) (n := 2048) _ _ r t q hq ⟨r.val / 4, by omega⟩ rfl).trans ?_
  rw [words_at kq hk]
  refine (bitcast_8_32_getLsbD_ix2 (R := 32768) (r := 8192) (n := 128) X _ ⟨4 * t.val + kq, by omega⟩ ⟨r.val / 4, by omega⟩ (8 * (r.val % 4) + q) (by omega)
    ⟨16 * t.val + (4 * kq + r.val % 4), by omega⟩ ?_).trans ?_
  · show 16 * t.val + (4 * kq + r.val % 4) = 4 * (4 * t.val + kq) + (8 * (r.val % 4) + q) / 8
    omega
  · congr 1
    omega

theorem srows_at (s : Vec Ideal S1x4x2048 .f32) (r : Fin 16) (t : Fin 2048) :
    srows s (ix2 r t) = s (ix3 0 ⟨r.val % 4, by omega⟩ t) := by
  unfold srows
  pointwise
  have hr := r.isLt
  split_ifs with h1 h2 h3 <;> (congr 2; apply Fin.ext; dsimp only; omega)

theorem scaled_at (C : IVec S512x2048 8) (s : Vec Ideal S1x4x2048 .f32) (r : Fin 512) (t : Fin 2048) :
    scaled C s (ix2 r t) = (((C (ix2 r t)).toInt : ℝ) : EReal) * s (ix3 0 ⟨r.val % 4, by omega⟩ t) := by
  have e : s (ix3 0 ⟨r.val % 4, by omega⟩ t) = srows s (ix2 ⟨r.val % 16, by omega⟩ t) := by
    rw [srows_at]; congr 2; apply Fin.ext; show r.val % 4 = r.val % 16 % 4; omega
  rw [e]
  unfold scaled
  generalize srows s = R
  pointwise
  rfl

theorem rows_at (Q : Vec Ideal S1x32x128 .bf16) (r : Fin 32) (d : Fin 128) : rows Q (ix2 r d) = Q (ix3 0 r d) := by
  pointwise [rows]

/-- The lane's head within the quad, as the kernel computes it. -/
def colf (x : BitVec 32) : BitVec 32 :=
  Scalar.select
    (IntOp.andi (IntOp.xori (IntOp.cmpi .slt (IntOp.remsi .vector x (Scalar.select (Scalar.cmpi .eq 4#32 0#32) 1#32 4#32)) 0#32)
        (Scalar.cmpi .slt (Scalar.select (Scalar.cmpi .eq 4#32 0#32) 1#32 4#32) 0#32))
      (IntOp.cmpi .ne (IntOp.remsi .vector x (Scalar.select (Scalar.cmpi .eq 4#32 0#32) 1#32 4#32)) 0#32))
    (IntOp.addi (IntOp.remsi .vector x (Scalar.select (Scalar.cmpi .eq 4#32 0#32) 1#32 4#32)) (Scalar.select (Scalar.cmpi .eq 4#32 0#32) 1#32 4#32))
    (IntOp.remsi .vector x (Scalar.select (Scalar.cmpi .eq 4#32 0#32) 1#32 4#32))

/-- The row's head within the quad, as the kernel computes it. -/
def rowf (x : BitVec 32) : BitVec 32 :=
  Scalar.select
    (IntOp.andi (IntOp.cmpi .ne (IntOp.subi (BitVec.setWidth 32 (IntOp.cmpi .sgt x 0#32)) (BitVec.setWidth 32 (IntOp.cmpi .slt x 0#32)))
        (Scalar.subi (Scalar.extui (Scalar.cmpi .sgt 8#32 0#32)) (Scalar.extui (Scalar.cmpi .slt 8#32 0#32))))
      (IntOp.cmpi .ne (IntOp.remsi .vector x 8#32) 0#32))
    (IntOp.subi (IntOp.divsi .vector x 8#32) 1#32) (IntOp.divsi .vector x 8#32)

theorem colf_eq : ∀ c : Fin 512, colf (BitVec.ofNat 32 c.val) = BitVec.ofNat 32 (c.val % 4) := by decide +kernel

theorem rowf_eq : ∀ r : Fin 32, rowf (BitVec.ofNat 32 r.val) = BitVec.ofNat 32 (r.val / 8) := by decide +kernel

theorem eq_heads : ∀ a b : Fin 4, IntOp.cmpi .eq (BitVec.ofNat 32 a.val) (BitVec.ofNat 32 b.val) = if b.val = a.val then 1#1 else 0#1 := by
  decide +kernel

/-- The mask keeps a row's own head's lanes. -/
theorem own_at (r : Fin 32) (c : Fin 512) :
    k0_pay18 (Scalar.select (Scalar.cmpi .eq 4#32 0#32) 1#32 4#32) k0_pay17 (ix2 r c) = if r.val / 8 = c.val % 4 then 1#1 else 0#1 := by
  have h : k0_pay18 (Scalar.select (Scalar.cmpi .eq 4#32 0#32) 1#32 4#32) k0_pay17 (ix2 r c)
      = IntOp.cmpi .eq (colf (BitVec.ofNat 32 c.val)) (rowf (BitVec.ofNat 32 r.val)) := by
    unfold colf rowf
    pointwise [k0_pay17, k0_pay18]
  rw [h, colf_eq, rowf_eq]
  exact eq_heads ⟨c.val % 4, by omega⟩ ⟨r.val / 8, by omega⟩

theorem negInf : Ideal.ofBits .f32 0xFF800000#32 = (⊥ : EReal) := by
  simp [Ideal.ofBits, Ideal.ieee]

theorem named_c2 : Named.named (F := Ideal) κ "exp2_scale" (φ := .f32) 0x3E0293EE#32 = Softmax.c2 :=
  IdealRules.named_const.ideal_named_scalar _ _ _ _ rfl

theorem spread_raw (E : FVec Ideal S128x512 .bf16) (own : IVec S32x512 1) (Q : FVec Ideal S32x128 .bf16) (r : Fin 32) (c : Fin 512) :
    spread E own Q (ix2 r c) = Scalar.select (own (ix2 r c)) (∑ k, Q (ix2 r k) * E (ix2 k c)) (0 : EReal) := by
  pointwise [spread]

theorem scores_at (qx : FVec Ideal S32x512 .bf16) (K : FVec Ideal S512x2048 .bf16) (r : Fin 32) (t : Fin 2048) :
    scores qx K (ix2 r t) = ∑ c, qx (ix2 r c) * K (ix2 c t) := by
  pointwise [scores]

theorem snew_at (o : ℕ) (ho : o ≤ 12) (h : S16x128.Slices ![o, 0] S4x128) (kn : FVec Ideal S16x128 .f32) (Q : FVec Ideal S32x128 .bf16) (r : Fin 32) :
    snew o h kn Q (ix2 r 0) = ∑ d, Q (ix2 r d) * kn (ix2 ⟨o + r.val / 8, by omega⟩ d) := by
  pointwise [snew]

theorem rmax_at (s : FVec Ideal S32x2048 .f32) (sn : FVec Ideal S32x1 .f32) (r : Fin 32) :
    rmax s sn (ix2 r 0) = max (Softmax.fmax fun t => s (ix2 r t)) (sn (ix2 r 0)) := by
  pointwise [rmax]
  rw [negInf]
  exact congrArg (fun x => max x (sn (ix2 r 0))) (Softmax.fold_max _)

theorem pcache_at (s : FVec Ideal S32x2048 .f32) (m : FVec Ideal S32x1 .f32) (r : Fin 32) (t : Fin 2048) :
    pcache s m (ix2 r t) = Ideal.exp2 ((s (ix2 r t) - m (ix2 r 0)) * Softmax.c2) := by
  pointwise [pcache]
  rw [named_c2]
  rfl

theorem pnew_at (sn m : FVec Ideal S32x1 .f32) (r : Fin 32) :
    pnew sn m (ix2 r 0) = Ideal.exp2 ((sn (ix2 r 0) - m (ix2 r 0)) * Softmax.c2) := by
  pointwise [pnew]
  rw [named_c2]
  rfl

theorem lsum_at (p : FVec Ideal S32x2048 .f32) (pn : FVec Ideal S32x1 .f32) (r : Fin 32) :
    lsum p pn (ix2 r 0) = (∑ t, p (ix2 r t)) + pn (ix2 r 0) := by
  pointwise [lsum]

theorem mix_at (o : ℕ) (ho : o ≤ 12) (h : S16x512.Slices ![o, 0] S4x512) (vnx : FVec Ideal S16x512 .f32) (p : FVec Ideal S32x2048 .f32)
    (pn l : FVec Ideal S32x1 .f32) (V : FVec Ideal S512x2048 .bf16) (r : Fin 32) (c : Fin 512) :
    mix o h vnx p pn l V (ix2 r c)
      = Ideal.div ((∑ t, p (ix2 r t) * V (ix2 c t)) + pn (ix2 r 0) * vnx (ix2 ⟨o + r.val / 8, by omega⟩ c)) (l (ix2 r 0)) := by
  pointwise [mix]

theorem gather_raw (E : FVec Ideal S128x512 .bf16) (own : IVec S32x512 1) (Y : FVec Ideal S32x512 .f32) (r : Fin 32) (d : Fin 128) :
    gather E own Y (ix3 0 r d) = ∑ c, Scalar.select (own (ix2 r c)) (Y (ix2 r c)) (0 : EReal) * E (ix2 d c) := by
  pointwise [gather]

end Cert.KernelIdeal.Quad

end
-- ==== Proof.Quad.lean ====
/- One quad's output at an index: with the expansion matrix `E (d, c) = [c / 4 = d]`, the own-lane mask and the packed
   codes, row `r` (head `r / 8` of the quad) and column `d` is the kernel's softmax row `Softmax.ker`. -/
module

public import proofs.«01_k».proof.Proof.QuadAt

@[expose] public section

noncomputable section

namespace Cert.KernelIdeal.Quad

open Cert.KernelIdeal Cert.KernelIdeal.Gen Idealize.ShloMosaic

/-- A sum over 512 lanes is a sum over 128 columns and four heads. -/
theorem sum_lanes (f : Fin 512 → EReal) : ∑ c, f c = ∑ d : Fin 128, ∑ j : Fin 4, f ⟨4 * d.val + j.val, by omega⟩ := by
  rw [← Fintype.sum_prod_type']
  refine (Fintype.sum_equiv (finProdFinEquiv (m := 128) (n := 4)) _ _ fun x => ?_).symm
  congr 1
  apply Fin.ext
  show 4 * x.1.val + x.2.val = x.2.val + 4 * x.1.val
  omega

/-- A sum over lanes whose terms vanish off head `j`'s lanes. -/
theorem sum_own (j : Fin 4) (f : Fin 512 → EReal) (h : ∀ c, c.val % 4 ≠ j.val → f c = 0) :
    ∑ c, f c = ∑ d : Fin 128, f ⟨4 * d.val + j.val, by omega⟩ := by
  rw [sum_lanes]
  refine Finset.sum_congr rfl fun d _ => ?_
  refine Finset.sum_eq_single j (fun k _ hk => h _ fun e => hk (Fin.ext ?_)) fun hj => absurd (Finset.mem_univ j) hj
  dsimp only at e
  omega

section
variable (E : FVec Ideal S128x512 .bf16) (hE : ∀ (d : Fin 128) (c : Fin 512), E (ix2 d c) = if c.val / 4 = d.val then (1 : EReal) else 0)
  (own : IVec S32x512 1) (hown : ∀ (r : Fin 32) (c : Fin 512), own (ix2 r c) = if r.val / 8 = c.val % 4 then 1#1 else 0#1)
include hE

/-- Multiplying by the expansion matrix copies a column to its four lanes. -/
theorem expand_sum (f : Fin 128 → EReal) (c : Fin 512) : ∑ k, f k * E (ix2 k c) = f ⟨c.val / 4, by omega⟩ := by
  rw [Finset.sum_eq_single (⟨c.val / 4, by omega⟩ : Fin 128)]
  · rw [hE, if_pos rfl, mul_one]
  · intro k _ hk
    rw [hE, if_neg fun e => hk (Fin.ext e.symm), mul_zero]
  · exact fun h => absurd (Finset.mem_univ _) h

include hown

theorem spread_at (Q : FVec Ideal S32x128 .bf16) (r : Fin 32) (c : Fin 512) :
    spread E own Q (ix2 r c) = if r.val / 8 = c.val % 4 then Q (ix2 r ⟨c.val / 4, by omega⟩) else (0 : EReal) := by
  rw [spread_raw, hown, expand_sum E hE fun k => Q (ix2 r k)]
  split_ifs <;> rfl

theorem gather_at (Y : FVec Ideal S32x512 .f32) (r : Fin 32) (d : Fin 128) :
    gather E own Y (ix3 0 r d) = Y (ix2 r ⟨4 * d.val + r.val / 8, by omega⟩) := by
  rw [gather_raw, Finset.sum_eq_single (⟨4 * d.val + r.val / 8, by omega⟩ : Fin 512)]
  · rw [hE, hown, if_pos (by dsimp only; omega), if_pos (by dsimp only; omega), mul_one]
    rfl
  · intro c _ hc
    rw [hE, hown]
    by_cases h1 : c.val / 4 = d.val
    · rw [if_neg fun e => hc (Fin.ext (by dsimp only; omega))]
      exact zero_mul _
    · rw [if_neg h1, mul_zero]
  · exact fun h => absurd (Finset.mem_univ _) h

theorem scores_own (Q : FVec Ideal S32x128 .bf16) (K : FVec Ideal S512x2048 .bf16) (r : Fin 32) (t : Fin 2048) :
    scores (spread E own Q) K (ix2 r t) = ∑ d, Q (ix2 r d) * K (ix2 ⟨4 * d.val + r.val / 8, by omega⟩ t) := by
  rw [scores_at, sum_own ⟨r.val / 8, by omega⟩]
  · refine Finset.sum_congr rfl fun d _ => ?_
    rw [spread_at E hE own hown, if_pos (by dsimp only; omega)]
    congr 3
    apply Fin.ext
    dsimp only
    omega
  · intro c hc
    rw [spread_at E hE own hown, if_neg fun e => hc e.symm, zero_mul]

/-- THE QUAD AT AN INDEX. -/
theorem quad_at (kq o : ℕ) (hk : kq < 4) (ho : o = 4 * kq) (h1 : S2048x4x128.Slices ![0, kq, 0] S2048x1x128) (h2 : S16x128.Slices ![o, 0] S4x128)
    (h3 : S16x512.Slices ![o, 0] S4x512) (kn : FVec Ideal S16x128 .f32) (vn : FVec Ideal S16x128 .bf16) (vnx : FVec Ideal S16x512 .f32)
    (hv : ∀ (n : Fin 16) (c : Fin 512), vnx (ix2 n c) = vn (ix2 n ⟨c.val / 4, by omega⟩)) (XK XV : IVec S32768x128 8)
    (Q : Vec Ideal S1x32x128 .bf16) (ks vs : Vec Ideal S1x4x2048 .f32) (r : Fin 32) (d : Fin 128) :
    quad kq o h1 h2 h3 E own kn vnx (bitcast S8192x128 32 XK bitcasts_S32768x128_w8_S8192x128_w32)
        (bitcast S8192x128 32 XV bitcasts_S32768x128_w8_S8192x128_w32) Q ks vs (ix3 0 r d)
      = Softmax.ker
          (fun t => ∑ x, Q (ix3 0 r x) * (((XK (ix2 ⟨16 * t.val + (4 * kq + r.val / 8), by omega⟩ x)).toInt : ℝ) * ks (ix3 0 ⟨r.val / 8, by omega⟩ t)))
          (∑ x, Q (ix3 0 r x) * kn (ix2 ⟨4 * kq + r.val / 8, by omega⟩ x))
          (fun t => ((XV (ix2 ⟨16 * t.val + (4 * kq + r.val / 8), by omega⟩ d)).toInt : ℝ) * vs (ix3 0 ⟨r.val / 8, by omega⟩ t))
          (vn (ix2 ⟨4 * kq + r.val / 8, by omega⟩ d)) := by
  subst ho
  have hsc : ∀ (X : IVec S32768x128 8) (s : Vec Ideal S1x4x2048 .f32) (x : Fin 128) (t : Fin 2048),
      scaled (codes kq h1 (bitcast S8192x128 32 X bitcasts_S32768x128_w8_S8192x128_w32)) s (ix2 ⟨4 * x.val + r.val / 8, by omega⟩ t)
        = ((X (ix2 ⟨16 * t.val + (4 * kq + r.val / 8), by omega⟩ x)).toInt : ℝ) * s (ix3 0 ⟨r.val / 8, by omega⟩ t) := by
    intro X s x t
    rw [scaled_at, codes_at kq hk]
    have e1 : (4 * x.val + r.val / 8) % 4 = r.val / 8 := by omega
    have e2 : (4 * x.val + r.val / 8) / 4 = x.val := by omega
    simp only [e1, e2]
  have hs : ∀ t, qs kq h1 E own (bitcast S8192x128 32 XK bitcasts_S32768x128_w8_S8192x128_w32) Q ks (ix2 r t)
      = ∑ x, Q (ix3 0 r x) * (((XK (ix2 ⟨16 * t.val + (4 * kq + r.val / 8), by omega⟩ x)).toInt : ℝ) * ks (ix3 0 ⟨r.val / 8, by omega⟩ t)) := by
    intro t
    rw [qs, scores_own E hE own hown]
    refine Finset.sum_congr rfl fun x _ => ?_
    rw [hsc, rows_at]
  have hsn : qsn (4 * kq) h2 kn Q (ix2 r 0) = ∑ x, Q (ix3 0 r x) * kn (ix2 ⟨4 * kq + r.val / 8, by omega⟩ x) := by
    rw [qsn, snew_at _ (by omega)]
    simp only [rows_at]
  rw [quad, gather_at E hE own hown, mix_at _ (by omega), hv]
  simp only [ql, lsum_at, qp, pcache_at, qpn, pnew_at, qm, rmax_at, hs, hsn, hsc]
  unfold Softmax.ker
  have e2 : (4 * d.val + r.val / 8) / 4 = d.val := by omega
  simp only [e2]

/-- The expanded new-token values. -/
theorem vnx_at (vn : FVec Ideal S16x128 .bf16) (n : Fin 16) (c : Fin 512) :
    k0_pay19 (F := Ideal) vn E (ix2 n c) = vn (ix2 n ⟨c.val / 4, by omega⟩) := by
  rw [← expand_sum E hE fun k => vn (ix2 n k)]
  pointwise [k0_pay19]
end

end Cert.KernelIdeal.Quad

end
-- ==== Proof.QuadPay.lean ====
/- The four unrolled copies of the kernel's body are the four instances of `Quad.quad`. -/
module

public import proofs.«01_k».proof.Proof.QuadDef

@[expose] public section

set_option maxRecDepth 16384

noncomputable section

namespace Cert.KernelIdeal.Quad

open Cert.KernelIdeal Cert.KernelIdeal.Gen Idealize.ShloMosaic

variable (E : FVec Ideal S128x512 .bf16) (kn : FVec Ideal S16x128 .f32) (vnx : FVec Ideal S16x512 .f32) (kw vw : IVec S8192x128 32)
  (Q : Vec Ideal S1x32x128 .bf16) (ks vs : Vec Ideal S1x4x2048 .f32)

theorem pay_quad0 (c : BitVec 32) (r : IVec S32x512 32) :
    k0_pay30 (F := Ideal) E (k0_pay18 c r) vnx (k0_pay25 kn kw (k0_pay20 Q) (k0_pay21 E c r Q) ks)
      (k0_pay26 kn kw (k0_pay20 Q) (k0_pay21 E c r Q) ks) (k0_pay27 kn kw (k0_pay20 Q) (k0_pay21 E c r Q) ks) (k0_pay28 vw) (k0_pay29 vs)
      = quad 0 0 slices_S2048x4x128_o0_0_0_S2048x1x128 slices_S16x128_o0_0_S4x128 slices_S16x512_o0_0_S4x512 E (k0_pay18 c r) kn vnx kw vw Q ks vs := rfl

variable (own : IVec S32x512 1)

theorem pay_quad1 :
    k0_pay35 (F := Ideal) E own (k0_pay34 kn vw vnx (k0_pay31 Q) (k0_pay32 E own Q) (k0_pay33 kw ks) vs)
      = quad 1 4 slices_S2048x4x128_o0_1_0_S2048x1x128 slices_S16x128_o4_0_S4x128 slices_S16x512_o4_0_S4x512 E own kn vnx kw vw Q ks vs := rfl

theorem pay_quad2 :
    k0_pay41 (F := Ideal) vw E own vnx (k0_pay38 kn Q) (k0_pay39 kn kw E own Q ks) (k0_pay40 kn kw E own Q ks) vs
      = quad 2 8 slices_S2048x4x128_o0_2_0_S2048x1x128 slices_S16x128_o8_0_S4x128 slices_S16x512_o8_0_S4x512 E own kn vnx kw vw Q ks vs := rfl

theorem pay_quad3 :
    k0_pay1 (F := Ideal) E own vnx (k0_pay46 kn kw E own Q ks) (k0_pay47 kn kw E own Q ks) (k0_pay48 kn kw E own Q ks) (k0_pay49 vw) vs
      = quad 3 12 slices_S2048x4x128_o0_3_0_S2048x1x128 slices_S16x128_o12_0_S4x128 slices_S16x512_o12_0_S4x512 E own kn vnx kw vw Q ks vs := rfl

end Cert.KernelIdeal.Quad

end
-- ==== Proof.Quant.lean ====
/- The int8 quantiser of one row of 128 values, as a function of the row; and both programs' quantiser operations read at
   an index as it. -/
module

public import proofs.«01_k».proof.Proof.Gen.KernelIdeal.Skeleton
public import proofs.«01_k».proof.Proof.Gen.ReferenceIdeal.Skeleton
public import proofs.«01_k».proof.Proof.Softmax
public import Idealize.ShloMosaic.Lib.Pointwise

@[expose] public section

set_option maxRecDepth 16384

noncomputable section

open Idealize.ShloMosaic

namespace Cert.Quant

/-- The largest magnitude of the row. -/
def amax (f : Fin 128 → EReal) : EReal := Softmax.fmax fun x => FloatOps.absf (F := Ideal) (φ := .f32) (f x)

/-- The row's scale: its largest magnitude over 127, or one. -/
def scale (f : Fin 128 → EReal) : EReal :=
  Scalar.select (Ideal.cmp .ogt (amax f) 0) (Ideal.div (amax f) (Ideal.ofBits .f32 0x42FE0000#32)) (1 : EReal)

/-- The code of the value `x` at scale `s`. -/
def code (x s : EReal) : BitVec 8 :=
  FloatOps.fptosi (F := Ideal) (φ := .f32) 8
    (min (Ideal.ofBits .f32 0x42FE0000#32) (max (Ideal.ofBits .f32 0xC2FE0000#32) (Ideal.liftRound Ideal.roundHalfEven (Ideal.div x s))))

theorem negInf : Ideal.ofBits .f32 0xFF800000#32 = (⊥ : EReal) := by
  simp [Ideal.ofBits, Ideal.ieee]

/-- The scale from the fold the vector reduction computes. -/
theorem scale_fold (f : Fin 128 → Ideal .f32) :
    scale f = if 0 < Finset.univ.fold max (Ideal.ofBits .f32 0xFF800000#32) (fun x => FloatOps.absf (f x)) then
      Ideal.div (Finset.univ.fold max (Ideal.ofBits .f32 0xFF800000#32) (fun x => FloatOps.absf (f x))) (Ideal.ofBits .f32 0x42FE0000#32)
      else (1 : EReal) := by
  rw [negInf, Softmax.fold_max]
  unfold scale Scalar.select
  simp only [Ideal.cmp_ogt_eq_one]
  rfl

end Cert.Quant

namespace Cert.KernelIdeal.Quant

open Cert.KernelIdeal Cert.KernelIdeal.Gen

theorem kscale (v : Vec Ideal S1x16x128 .bf16) (n : Fin 16) :
    k0_pay3 (F := Ideal) v (ix2 n 0) = Cert.Quant.scale fun d => v (ix3 0 n d) := by
  rw [Cert.Quant.scale_fold]
  pointwise [k0_pay3, k0_pay2]

theorem kcode (v : Vec Ideal S1x16x128 .bf16) (n : Fin 16) (d : Fin 128) :
    k0_pay4 (F := Ideal) v (ix2 n d) = Cert.Quant.code (v (ix3 0 n d)) (Cert.Quant.scale fun d => v (ix3 0 n d)) := by
  rw [← kscale]
  generalize hs : k0_pay3 (F := Ideal) v = s
  unfold k0_pay4 Cert.Quant.code
  rw [hs]
  pointwise [k0_pay2]

theorem vscale (v : Vec Ideal S1x16x128 .bf16) (n : Fin 16) :
    k0_pay6 (F := Ideal) v (ix2 n 0) = Cert.Quant.scale fun d => v (ix3 0 n d) := kscale v n

theorem vcode (v : Vec Ideal S1x16x128 .bf16) (n : Fin 16) (d : Fin 128) :
    k0_pay7 (F := Ideal) v (ix2 n d) = Cert.Quant.code (v (ix3 0 n d)) (Cert.Quant.scale fun d => v (ix3 0 n d)) := kcode v n d

theorem p8 (c : IVec S16x128 8) (n : Fin 16) (d : Fin 128) : k0_pay8 c (ix3 0 n d) = c (ix2 n d) := by
  pointwise [k0_pay8]

theorem p9 (c : IVec S16x128 8) (n : Fin 16) (d : Fin 128) : k0_pay9 c (ix3 0 n d) = c (ix2 n d) := by
  pointwise [k0_pay9]

theorem p10 (c : FVec Ideal S16x1 .f32) (n : Fin 16) : k0_pay10 c (ix3 0 n 0) = c (ix2 n 0) := by
  pointwise [k0_pay10]

theorem p11 (c : FVec Ideal S16x1 .f32) (n : Fin 16) : k0_pay11 c (ix3 0 n 0) = c (ix2 n 0) := by
  pointwise [k0_pay11]

/-- The dequantised new token. -/
theorem p12 (s : FVec Ideal S16x1 .f32) (c : IVec S16x128 8) (n : Fin 16) (d : Fin 128) :
    k0_pay12 s c (ix2 n d) = (((c (ix2 n d)).toInt : ℝ) : EReal) * s (ix2 n 0) := by
  pointwise [k0_pay12]
  rfl

theorem p13 (s : FVec Ideal S16x1 .f32) (c : IVec S16x128 8) (n : Fin 16) (d : Fin 128) :
    k0_pay13 s c (ix2 n d) = (((c (ix2 n d)).toInt : ℝ) : EReal) * s (ix2 n 0) := by
  pointwise [k0_pay13]
  rfl

end Cert.KernelIdeal.Quant

namespace Cert.ReferenceIdeal.Quant

open Cert.ReferenceIdeal Cert.ReferenceIdeal.Gen

theorem kscale (v : Vec Ideal S32x1x16x128 .bf16) (b : Fin 32) (n : Fin 16) :
    k0_pay2 (F := Ideal) v (ix3 b 0 n) = Cert.Quant.scale fun d => v (ix4 b 0 n d) := by
  rw [Cert.Quant.scale_fold]
  pointwise [k0_pay2, k0_pay1]

theorem kcode (v : Vec Ideal S32x1x16x128 .bf16) (b : Fin 32) (n : Fin 16) (d : Fin 128) :
    k0_pay3 (F := Ideal) v (ix4 b 0 n d) = Cert.Quant.code (v (ix4 b 0 n d)) (Cert.Quant.scale fun d => v (ix4 b 0 n d)) := by
  rw [← kscale]
  generalize hs : k0_pay2 (F := Ideal) v = s
  unfold k0_pay3 Cert.Quant.code
  rw [hs]
  pointwise [k0_pay1]

theorem vscale (v : Vec Ideal S32x1x16x128 .bf16) (b : Fin 32) (n : Fin 16) :
    k0_pay5 (F := Ideal) v (ix3 b 0 n) = Cert.Quant.scale fun d => v (ix4 b 0 n d) := kscale v b n

theorem vcode (v : Vec Ideal S32x1x16x128 .bf16) (b : Fin 32) (n : Fin 16) (d : Fin 128) :
    k0_pay6 (F := Ideal) v (ix4 b 0 n d) = Cert.Quant.code (v (ix4 b 0 n d)) (Cert.Quant.scale fun d => v (ix4 b 0 n d)) := kcode v b n d

theorem p7 (v : Vec Ideal S32x1x16x128 .bf16) (b : Fin 32) (n : Fin 16) (d : Fin 128) :
    k0_pay7 (F := Ideal) v (ix3 b n d) = k0_pay3 (F := Ideal) v (ix4 b 0 n d) := by
  pointwise [k0_pay7]

theorem p8 (s : FVec Ideal S32x1x16 .f32) (b : Fin 32) (n : Fin 16) : k0_pay8 s (ix3 b n 0) = s (ix3 b 0 n) := by
  pointwise [k0_pay8]

theorem p9 (c : IVec S32x1x16x128 8) (b : Fin 32) (n : Fin 16) (d : Fin 128) : k0_pay9 c (ix3 b n d) = c (ix4 b 0 n d) := by
  pointwise [k0_pay9]

theorem p10 (s : FVec Ideal S32x1x16 .f32) (b : Fin 32) (n : Fin 16) : k0_pay10 s (ix3 b n 0) = s (ix3 b 0 n) := by
  pointwise [k0_pay10]

theorem p11 (q : Vec Ideal S32x1x16x8x128 .bf16) (b : Fin 32) (n : Fin 16) (g : Fin 8) (d : Fin 128) :
    k0_pay11 q (ix5 b 0 n g d) = q (ix5 b 0 n g d) := by
  pointwise [k0_pay11]

theorem p12 (c : Vec Ideal S32x2048x16x128 .i8) (s : Vec Ideal S32x2048x16 .f32) (b : Fin 32) (t : Fin 2048) (n : Fin 16) (d : Fin 128) :
    k0_pay12 (F := Ideal) c s (ix4 b t n d) = (((c (ix4 b t n d)).toInt : ℝ) : EReal) * s (ix3 b t n) := by
  pointwise [k0_pay12]
  rfl

theorem p13 (c : Vec Ideal S32x2048x16x128 .i8) (s : Vec Ideal S32x2048x16 .f32) (b : Fin 32) (t : Fin 2048) (n : Fin 16) (d : Fin 128) :
    k0_pay13 (F := Ideal) c s (ix4 b t n d) = (((c (ix4 b t n d)).toInt : ℝ) : EReal) * s (ix3 b t n) := by
  pointwise [k0_pay13]
  rfl

end Cert.ReferenceIdeal.Quant

end
-- ==== Proof.KernelBlock.lean ====
/- What the kernel's body leaves in its output block for one batch element: at head `h` and column `d`, the softmax row
   `Softmax.ker` over the cached and the new tokens of kv head `h / 8`. -/
module

public import proofs.«01_k».proof.Proof.Quad
public import proofs.«01_k».proof.Proof.QuadPay
public import proofs.«01_k».proof.Proof.Quant
public import proofs.«01_k».proof.Proof.Gen.KernelIdeal.Frame
public import Idealize.ShloMosaic.Lib.Pipeline.ValueKit

@[expose] public section

set_option maxRecDepth 16384

noncomputable section

namespace Cert.KernelIdeal.Quad

open Cert.KernelIdeal Cert.KernelIdeal.Gen Idealize.ShloMosaic

/-- The dequantised new token's entry `d` of a row. -/
def deq (f : Fin 128 → EReal) (d : Fin 128) : EReal :=
  (((Cert.Quant.code (f d) (Cert.Quant.scale f)).toInt : ℝ) : EReal) * Cert.Quant.scale f

variable (x0 : Vec Ideal S1x128x128 .bf16) (x1 x2 : Vec Ideal S1x16x128 .bf16) (x3 : Vec Ideal S1x32768x128 .i8) (x4 : Vec Ideal S1x16x2048 .f32)
  (x5 : Vec Ideal S1x32768x128 .i8) (x6 : Vec Ideal S1x16x2048 .f32) (x7 : Vec Ideal S128x512 .bf16)

/-- The block's entry at head `h` (kv head `n`) and column `d`. -/
def entry (h : Fin 128) (n : Fin 16) (d : Fin 128) : EReal :=
  Softmax.ker
    (fun t => ∑ x, x0 (ix3 0 h x) * (((x3 (ix3 0 ⟨16 * t.val + n.val, by omega⟩ x)).toInt : ℝ) * x4 (ix3 0 n t)))
    (∑ x, x0 (ix3 0 h x) * deq (fun d => x1 (ix3 0 n d)) x)
    (fun t => ((x5 (ix3 0 ⟨16 * t.val + n.val, by omega⟩ d)).toInt : ℝ) * x6 (ix3 0 n t))
    (deq (fun d => x2 (ix3 0 n d)) d)

theorem codes_cast (x : IVec S1x32768x128 8) (i : Fin 32768) (d : Fin 128) :
    shapeCast S32768x128 x shapeCasts_S1x32768x128_S32768x128 (ix2 i d) = x (ix3 0 i d) := by
  pointwise

theorem p16_at (i : Fin 128) (c : Fin 512) : k0_pay16 x7 (ix2 i c) = x7 (ix2 i c) := by
  pointwise [k0_pay16]

/-- The own-head mask. -/
abbrev own : IVec S32x512 1 := k0_pay18 (Scalar.select (Scalar.cmpi .eq 4#32 0#32) 1#32 4#32) k0_pay17

/-- One quad of heads over the block's operands. -/
theorem quad_entry (hE : ∀ (d : Fin 128) (c : Fin 512), x7 (ix2 d c) = if c.val / 4 = d.val then 1 else 0)
    (kq o : ℕ) (hk : kq < 4) (ho : o = 4 * kq) (h1 : S2048x4x128.Slices ![0, kq, 0] S2048x1x128) (h2 : S16x128.Slices ![o, 0] S4x128)
    (h3 : S16x512.Slices ![o, 0] S4x512) (Q : Vec Ideal S1x32x128 .bf16) (ks vs : Vec Ideal S1x4x2048 .f32)
    (hQ : ∀ (r : Fin 32) x, Q (ix3 0 r x) = x0 (ix3 0 ⟨32 * kq + r.val, by omega⟩ x))
    (hks : ∀ (j : Fin 4) t, ks (ix3 0 j t) = x4 (ix3 0 ⟨o + j.val, by omega⟩ t))
    (hvs : ∀ (j : Fin 4) t, vs (ix3 0 j t) = x6 (ix3 0 ⟨o + j.val, by omega⟩ t)) (r : Fin 32) (d : Fin 128) :
    quad kq o h1 h2 h3 (k0_pay16 x7) own (k0_pay12 (k0_pay3 x1) (k0_pay4 x1)) (k0_pay19 (k0_pay13 (k0_pay6 x2) (k0_pay7 x2)) (k0_pay16 x7))
        (k0_pay14 x3) (k0_pay15 x5) Q ks vs (ix3 0 r d)
      = entry x0 x1 x2 x3 x4 x5 x6 ⟨32 * kq + r.val, by omega⟩ ⟨4 * kq + r.val / 8, by omega⟩ d := by
  subst ho
  have hE' : ∀ (d : Fin 128) (c : Fin 512), k0_pay16 x7 (ix2 d c) = if c.val / 4 = d.val then 1 else 0 := fun d c => (p16_at x7 d c).trans (hE d c)
  refine (quad_at _ hE' own own_at kq _ hk rfl h1 h2 h3 _ (k0_pay13 (k0_pay6 x2) (k0_pay7 x2)) _ (vnx_at _ hE' own own_at _)
    (shapeCast S32768x128 x3 shapeCasts_S1x32768x128_S32768x128) (shapeCast S32768x128 x5 shapeCasts_S1x32768x128_S32768x128) Q ks vs r d).trans ?_
  unfold entry deq
  simp only [hQ, hks, hvs, codes_cast, Quant.p12, Quant.p13, Quant.kscale, Quant.kcode, Quant.vscale, Quant.vcode]

/-- The body's four stores are the four quads. -/
theorem out_quads : out0_8 x0 x1 x2 x3 x4 x5 x6 x7 = View.canon
    [⟨r0_10, quad 3 12 slices_S2048x4x128_o0_3_0_S2048x1x128 slices_S16x128_o12_0_S4x128 slices_S16x512_o12_0_S4x512 (k0_pay16 x7) own
        (k0_pay12 (k0_pay3 x1) (k0_pay4 x1)) (k0_pay19 (k0_pay13 (k0_pay6 x2) (k0_pay7 x2)) (k0_pay16 x7)) (k0_pay14 x3) (k0_pay15 x5)
        (View.ld x0 r0_10) (View.ld x4 r0_11) (View.ld x6 r0_11)⟩,
      ⟨r0_8, quad 2 8 slices_S2048x4x128_o0_2_0_S2048x1x128 slices_S16x128_o8_0_S4x128 slices_S16x512_o8_0_S4x512 (k0_pay16 x7) own
        (k0_pay12 (k0_pay3 x1) (k0_pay4 x1)) (k0_pay19 (k0_pay13 (k0_pay6 x2) (k0_pay7 x2)) (k0_pay16 x7)) (k0_pay14 x3) (k0_pay15 x5)
        (View.ld x0 r0_8) (View.ld x4 r0_9) (View.ld x6 r0_9)⟩,
      ⟨r0_6, quad 1 4 slices_S2048x4x128_o0_1_0_S2048x1x128 slices_S16x128_o4_0_S4x128 slices_S16x512_o4_0_S4x512 (k0_pay16 x7) own
        (k0_pay12 (k0_pay3 x1) (k0_pay4 x1)) (k0_pay19 (k0_pay13 (k0_pay6 x2) (k0_pay7 x2)) (k0_pay16 x7)) (k0_pay14 x3) (k0_pay15 x5)
        (View.ld x0 r0_6) (View.ld x4 r0_7) (View.ld x6 r0_7)⟩,
      ⟨r0_4, quad 0 0 slices_S2048x4x128_o0_0_0_S2048x1x128 slices_S16x128_o0_0_S4x128 slices_S16x512_o0_0_S4x512 (k0_pay16 x7) own
        (k0_pay12 (k0_pay3 x1) (k0_pay4 x1)) (k0_pay19 (k0_pay13 (k0_pay6 x2) (k0_pay7 x2)) (k0_pay16 x7)) (k0_pay14 x3) (k0_pay15 x5)
        (View.ld x0 r0_4) (View.ld x4 r0_5) (View.ld x6 r0_5)⟩] := by
  have l1 : View.ld x1 r0_0 = x1 := by simp (disch := decide) only [View.ld_unit_lit']
  have l2 : View.ld x2 r0_0 = x2 := by simp (disch := decide) only [View.ld_unit_lit']
  have l3 : View.ld x3 r0_2 = x3 := by simp (disch := decide) only [View.ld_unit_lit']
  have l5 : View.ld x5 r0_2 = x5 := by simp (disch := decide) only [View.ld_unit_lit']
  have l7 : View.ld x7 r0_3 = x7 := by simp (disch := decide) only [View.ld_unit_lit']
  unfold_out out0_8
  rw [l1, l2, l3, l5, l7]
  rw [pay_quad0, pay_quad1, pay_quad2, pay_quad3]

/-- A load of 32 rows at an offset. -/
theorem ld_rows (o : ℕ) (ho : o ≤ 96) (inb) (r : Fin 32) (x : Fin 128) :
    View.ld x0 (Rect.unit (s := S1x128x128) ![0, o, 0] S1x32x128.size inb) (ix3 0 r x) = x0 (ix3 0 ⟨o + r.val, by omega⟩ x) :=
  View.ld_unit_apply_of _ _ _ _ _ _ fun a => by
    fin_cases a
    · rfl
    · rfl
    · show x.val = 0 + x.val
      omega

/-- A load of four heads' scales at an offset. -/
theorem ld_scales (o : ℕ) (ho : o ≤ 12) (inb) (j : Fin 4) (t : Fin 2048) :
    View.ld x4 (Rect.unit (s := S1x16x2048) ![0, o, 0] S1x4x2048.size inb) (ix3 0 j t) = x4 (ix3 0 ⟨o + j.val, by omega⟩ t) :=
  View.ld_unit_apply_of _ _ _ _ _ _ fun a => by
    fin_cases a
    · rfl
    · rfl
    · show t.val = 0 + t.val
      omega

theorem ix3_eta (x : S1x32x128.Idx) : ∃ (r : Fin 32) (d : Fin 128), x = ix3 0 r d :=
  ⟨x 1, x 2, by funext a; fin_cases a <;> first | rfl | exact Subsingleton.elim (α := Fin 1) _ _⟩

theorem entry_congr (h h' : Fin 128) (n n' : Fin 16) (d d' : Fin 128) (hh : h.val = h'.val) (hn : n.val = n'.val) (hd : d.val = d'.val) :
    entry x0 x1 x2 x3 x4 x5 x6 h n d = entry x0 x1 x2 x3 x4 x5 x6 h' n' d' := by
  rw [Fin.ext hh, Fin.ext hn, Fin.ext hd]

/-- The output block at an index. -/
theorem out_at (hE : ∀ (d : Fin 128) (c : Fin 512), x7 (ix2 d c) = if c.val / 4 = d.val then 1 else 0) (h : Fin 128) (d : Fin 128) :
    out0_8 x0 x1 x2 x3 x4 x5 x6 x7 (ix3 0 h d) = entry x0 x1 x2 x3 x4 x5 x6 h ⟨h.val / 8, by omega⟩ d := by
  rw [out_quads]
  generalize hy : (ix3 0 h d : S1x128x128.Idx) = y
  have e1 : (y 1).val = h.val := by rw [← hy]; rfl
  have e2 : (y 2).val = d.val := by rw [← hy]; rfl
  canon_tiles x h
  · obtain ⟨r, d', rfl⟩ := ix3_eta x
    replace h1 : (y 1).val = 96 + r.val := h1
    replace h2 : (y 2).val = d'.val := h2
    exact (quad_entry x0 x1 x2 x3 x4 x5 x6 x7 hE 3 12 (by decide) rfl _ _ _ _ _ _ (ld_rows x0 96 (by decide) _) (ld_scales x4 12 (by decide) _)
      (ld_scales x6 12 (by decide) _) r d').trans
      (entry_congr x0 x1 x2 x3 x4 x5 x6 _ _ _ _ _ _ (by show 32 * 3 + r.val = _; omega) (by show 4 * 3 + r.val / 8 = h.val / 8; omega) (by omega))
  · obtain ⟨r, d', rfl⟩ := ix3_eta x
    replace h1 : (y 1).val = 64 + r.val := h1
    replace h2 : (y 2).val = d'.val := h2
    exact (quad_entry x0 x1 x2 x3 x4 x5 x6 x7 hE 2 8 (by decide) rfl _ _ _ _ _ _ (ld_rows x0 64 (by decide) _) (ld_scales x4 8 (by decide) _)
      (ld_scales x6 8 (by decide) _) r d').trans
      (entry_congr x0 x1 x2 x3 x4 x5 x6 _ _ _ _ _ _ (by show 32 * 2 + r.val = _; omega) (by show 4 * 2 + r.val / 8 = h.val / 8; omega) (by omega))
  · obtain ⟨r, d', rfl⟩ := ix3_eta x
    replace h1 : (y 1).val = 32 + r.val := h1
    replace h2 : (y 2).val = d'.val := h2
    exact (quad_entry x0 x1 x2 x3 x4 x5 x6 x7 hE 1 4 (by decide) rfl _ _ _ _ _ _ (ld_rows x0 32 (by decide) _) (ld_scales x4 4 (by decide) _)
      (ld_scales x6 4 (by decide) _) r d').trans
      (entry_congr x0 x1 x2 x3 x4 x5 x6 _ _ _ _ _ _ (by show 32 * 1 + r.val = _; omega) (by show 4 * 1 + r.val / 8 = h.val / 8; omega) (by omega))
  · obtain ⟨r, d', rfl⟩ := ix3_eta x
    replace h1 : (y 1).val = 0 + r.val := h1.trans (Nat.zero_add _).symm
    replace h2 : (y 2).val = d'.val := h2
    exact (quad_entry x0 x1 x2 x3 x4 x5 x6 x7 hE 0 0 (by decide) rfl _ _ _ _ _ _ (ld_rows x0 0 (by decide) _) (ld_scales x4 0 (by decide) _)
      (ld_scales x6 0 (by decide) _) r d').trans
      (entry_congr x0 x1 x2 x3 x4 x5 x6 _ _ _ _ _ _ (by show 32 * 0 + r.val = _; omega) (by show 4 * 0 + r.val / 8 = h.val / 8; omega) (by omega))

end Cert.KernelIdeal.Quad

end
-- ==== Proof.KernelHost.lean ====
/- The operands of the kernel's region, read at an index: the reshaped and transposed arguments, and the expansion matrix. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Host

open Cert.KernelIdeal Cert.KernelIdeal.Gen Idealize.ShloMosaic

variable (m : (ℓ : Loc nD τ sig) → Buf (Elt Ideal) ℓ) (c : Dev nD)

theorem x_at (b : Fin 32) (h d : Fin 128) : V m c main_v0 (ix3 b h d) = m (c.tc.loc main_arg0) (ix3 b 0 ⟨h.val * 128 + d.val, by omega⟩) := by
  entry_read
  pointwise

theorem kn_at (b : Fin 32) (n : Fin 16) (d : Fin 128) : V m c main_v13 (ix3 b n d) = m (c.tc.loc main_arg1) (ix4 b 0 n d) := by
  entry_read
  pointwise

theorem vn_at (b : Fin 32) (n : Fin 16) (d : Fin 128) : V m c main_v14 (ix3 b n d) = m (c.tc.loc main_arg2) (ix4 b 0 n d) := by
  entry_read
  pointwise

theorem kc_at (b : Fin 32) (t : Fin 2048) (n : Fin 16) (d : Fin 128) :
    V m c main_v1 (ix3 b ⟨16 * t.val + n.val, by omega⟩ d) = m (c.tc.loc main_arg3) (ix4 b t n d) := by
  entry_read
  pointwise

theorem vc_at (b : Fin 32) (t : Fin 2048) (n : Fin 16) (d : Fin 128) :
    V m c main_v2 (ix3 b ⟨16 * t.val + n.val, by omega⟩ d) = m (c.tc.loc main_arg5) (ix4 b t n d) := by
  entry_read
  pointwise

theorem ks_at (b : Fin 32) (n : Fin 16) (t : Fin 2048) : V m c main_v3 (ix3 b n t) = m (c.tc.loc main_arg4) (ix3 b t n) := by
  entry_read
  pointwise

theorem vs_at (b : Fin 32) (n : Fin 16) (t : Fin 2048) : V m c main_v4 (ix3 b n t) = m (c.tc.loc main_arg6) (ix3 b t n) := by
  entry_read
  pointwise

theorem expand_at (d : Fin 128) (l : Fin 512) : V m c main_v12 (ix2 d l) = if l.val / 4 = d.val then (1 : EReal) else 0 := by
  entry_read
  pointwise
  rw [show IntOp.addi (BitVec.ofNat 32 d.val) 0#32 = BitVec.ofNat 32 d.val from BitVec.add_zero _]
  rw [WordCmp.cmpi_eq_ofNat (by omega) (by omega)]
  show (((BitVec.ofBool (decide (d.val = l.val / 4))).toNat : ℝ) : EReal) = _
  by_cases h : d.val = l.val / 4
  · rw [if_pos h.symm, decide_eq_true h, show (BitVec.ofBool true).toNat = 1 from rfl]
    norm_num
  · rw [if_neg (Ne.symm h), decide_eq_false h, show (BitVec.ofBool false).toNat = 0 from rfl]
    norm_num

/-- Grid point `t` reads batch element `t` through every window but the expansion matrix's. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![0, 0] :=
  (by decide +kernel : ∀ t : Fin grid0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![0, 0])

variable (t : Fin cfg0.N) (b : Fin 32) (hb : b.val = t.val)
include hb

theorem blk0 (i j : Fin 128) : iblk m c 0 t (ix3 0 i j) = m (c.tc.loc main_arg0) (ix3 b 0 ⟨i.val * 128 + j.val, by omega⟩) := by
  rw [← x_at m c]
  blk_ext [iblk, idx t]

theorem blk1 (n : Fin 16) (d : Fin 128) : iblk m c 1 t (ix3 0 n d) = m (c.tc.loc main_arg1) (ix4 b 0 n d) := by
  rw [← kn_at m c]
  blk_ext [iblk, idx t]

theorem blk2 (n : Fin 16) (d : Fin 128) : iblk m c 2 t (ix3 0 n d) = m (c.tc.loc main_arg2) (ix4 b 0 n d) := by
  rw [← vn_at m c]
  blk_ext [iblk, idx t]

theorem blk3 (k : Fin 2048) (n : Fin 16) (d : Fin 128) :
    iblk m c 3 t (ix3 0 ⟨16 * k.val + n.val, by omega⟩ d) = m (c.tc.loc main_arg3) (ix4 b k n d) := by
  rw [← kc_at m c]
  blk_ext [iblk, idx t]

theorem blk4 (n : Fin 16) (k : Fin 2048) : iblk m c 4 t (ix3 0 n k) = m (c.tc.loc main_arg4) (ix3 b k n) := by
  rw [← ks_at m c]
  blk_ext [iblk, idx t]

theorem blk5 (k : Fin 2048) (n : Fin 16) (d : Fin 128) :
    iblk m c 5 t (ix3 0 ⟨16 * k.val + n.val, by omega⟩ d) = m (c.tc.loc main_arg5) (ix4 b k n d) := by
  rw [← vc_at m c]
  blk_ext [iblk, idx t]

theorem blk6 (n : Fin 16) (k : Fin 2048) : iblk m c 6 t (ix3 0 n k) = m (c.tc.loc main_arg6) (ix3 b k n) := by
  rw [← vs_at m c]
  blk_ext [iblk, idx t]

omit hb in
theorem blk7 (i : Fin 128) (j : Fin 512) : iblk m c 7 t (ix2 i j) = if j.val / 4 = i.val then (1 : EReal) else 0 := by
  rw [← expand_at m c]
  blk_ext [iblk, idx t]

end Cert.KernelIdeal.Host

end
-- ==== Proof.KernelArray.lean ====
/- The kernel's five result arrays, index by index, as functions of the arguments. -/
module

public import proofs.«01_k».proof.Proof.KernelBlock
public import proofs.«01_k».proof.Proof.KernelHost

@[expose] public section

set_option maxRecDepth 16384

noncomputable section

namespace Cert.Value

open Idealize.ShloMosaic Cert.KernelIdeal

/-- The dequantised new token's entry `d` of a row. -/
def deq (f : Fin 128 → EReal) (d : Fin 128) : EReal :=
  (((Quant.code (f d) (Quant.scale f)).toInt : ℝ) : EReal) * Quant.scale f

variable (a0 : Vec Ideal S32x1x16384 .bf16) (a1 a2 : Vec Ideal S32x1x16x128 .bf16) (a3 : Vec Ideal S32x2048x16x128 .i8)
  (a4 : Vec Ideal S32x2048x16 .f32) (a5 : Vec Ideal S32x2048x16x128 .i8) (a6 : Vec Ideal S32x2048x16 .f32)

/-- The attention output at batch `b`, head `h`, column `d`. -/
def yAt (b : Fin 32) (h d : Fin 128) : EReal :=
  Softmax.ker
    (fun t => ∑ x : Fin 128, a0 (ix3 b 0 ⟨h.val * 128 + x.val, by omega⟩) * (((a3 (ix4 b t ⟨h.val / 8, by omega⟩ x)).toInt : ℝ) * a4 (ix3 b t ⟨h.val / 8, by omega⟩)))
    (∑ x : Fin 128, a0 (ix3 b 0 ⟨h.val * 128 + x.val, by omega⟩) * deq (fun d => a1 (ix4 b 0 ⟨h.val / 8, by omega⟩ d)) x)
    (fun t => ((a5 (ix4 b t ⟨h.val / 8, by omega⟩ d)).toInt : ℝ) * a6 (ix3 b t ⟨h.val / 8, by omega⟩))
    (deq (fun d => a2 (ix4 b 0 ⟨h.val / 8, by omega⟩ d)) d)

/-- The attention output. -/
def y : Vec Ideal S32x128x128 .bf16 := fun i => yAt a0 a1 a2 a3 a4 a5 a6 (i 0) (i 1) (i 2)

/-- One batch element's block operands, as the arguments' entries, give that batch element's output. -/
theorem entry_eq (x0 : Vec Ideal S1x128x128 .bf16) (x1 x2 : Vec Ideal S1x16x128 .bf16) (x3 : Vec Ideal S1x32768x128 .i8) (x4 : Vec Ideal S1x16x2048 .f32)
    (x5 : Vec Ideal S1x32768x128 .i8) (x6 : Vec Ideal S1x16x2048 .f32) (b : Fin 32)
    (h0 : ∀ i j : Fin 128, x0 (ix3 0 i j) = a0 (ix3 b 0 ⟨i.val * 128 + j.val, by omega⟩))
    (h1 : ∀ n d, x1 (ix3 0 n d) = a1 (ix4 b 0 n d)) (h2 : ∀ n d, x2 (ix3 0 n d) = a2 (ix4 b 0 n d))
    (h3 : ∀ (k : Fin 2048) (n : Fin 16) d, x3 (ix3 0 ⟨16 * k.val + n.val, by omega⟩ d) = a3 (ix4 b k n d)) (h4 : ∀ n k, x4 (ix3 0 n k) = a4 (ix3 b k n))
    (h5 : ∀ (k : Fin 2048) (n : Fin 16) d, x5 (ix3 0 ⟨16 * k.val + n.val, by omega⟩ d) = a5 (ix4 b k n d)) (h6 : ∀ n k, x6 (ix3 0 n k) = a6 (ix3 b k n))
    (h d : Fin 128) : Quad.entry x0 x1 x2 x3 x4 x5 x6 h ⟨h.val / 8, by omega⟩ d = yAt a0 a1 a2 a3 a4 a5 a6 b h d := by
  unfold Quad.entry yAt
  have e3 := fun k : Fin 2048 => h3 k ⟨h.val / 8, by omega⟩
  have e5 := fun k : Fin 2048 => h5 k ⟨h.val / 8, by omega⟩
  simp only [h0, h1, h2, e3, h4, e5, h6]
  rfl

/-- The codes of the new rows. -/
def codes (a : Vec Ideal S32x1x16x128 .bf16) : Vec Ideal S32x16x128 .i8 := fun i =>
  let b : Fin 32 := i 0
  let n : Fin 16 := i 1
  let d : Fin 128 := i 2
  Quant.code (a (ix4 b 0 n d)) (Quant.scale fun d => a (ix4 b 0 n d))

/-- The scales of the new rows. -/
def scales (a : Vec Ideal S32x1x16x128 .bf16) : Vec Ideal S32x16x1 .f32 := fun i =>
  let b : Fin 32 := i 0
  let n : Fin 16 := i 1
  Quant.scale fun d => a (ix4 b 0 n d)

end Cert.Value

namespace Cert.KernelIdeal.Arrays

open Cert.KernelIdeal Cert.KernelIdeal.Gen Idealize.ShloMosaic

variable (m : (ℓ : Loc nD τ sig) → Buf (Elt Ideal) ℓ) (c : Dev nD)

theorem idx_out : ∀ t : Fin cfg0.N, win0_8.index t = ![t.val, 0, 0] ∧ win0_9.index t = ![t.val, 0, 0] ∧ win0_10.index t = ![t.val, 0, 0]
    ∧ win0_11.index t = ![t.val, 0, 0] ∧ win0_12.index t = ![t.val, 0, 0] :=
  (by decide +kernel : ∀ t : Fin grid0.N, win0_8.index t = ![t.val, 0, 0] ∧ win0_9.index t = ![t.val, 0, 0] ∧ win0_10.index t = ![t.val, 0, 0]
    ∧ win0_11.index t = ![t.val, 0, 0] ∧ win0_12.index t = ![t.val, 0, 0])

theorem eta8 (x : S1x128x128.Idx) : ∃ (h d : Fin 128), x = ix3 0 h d :=
  ⟨x 1, x 2, by funext a; fin_cases a <;> first | rfl | exact Subsingleton.elim (α := Fin 1) _ _⟩

theorem eta9 (x : S1x16x128.Idx) : ∃ (n : Fin 16) (d : Fin 128), x = ix3 0 n d :=
  ⟨x 1, x 2, by funext a; fin_cases a <;> first | rfl | exact Subsingleton.elim (α := Fin 1) _ _⟩

theorem eta10 (x : S1x16x1.Idx) : ∃ n : Fin 16, x = ix3 0 n 0 :=
  ⟨x 1, by funext a; fin_cases a <;> first | rfl | exact Subsingleton.elim (α := Fin 1) _ _⟩

variable (t : Fin cfg0.N)

/-- The batch element of a grid point. -/
abbrev bat : Fin 32 := t

theorem emb8 (h d : Fin 128) : (win0_8.blk t).view.emb (ix3 0 h d) = ix3 (bat t) h d := by
  blk_ext [idx_out t]
  exact Nat.add_zero _

theorem emb9 (n : Fin 16) (d : Fin 128) : (win0_9.blk t).view.emb (ix3 0 n d) = ix3 (bat t) n d := by
  blk_ext [idx_out t]
  exact Nat.add_zero _

theorem emb10 (n : Fin 16) : (win0_10.blk t).view.emb (ix3 0 n 0) = ix3 (bat t) n 0 := by
  blk_ext [idx_out t]
  exact Nat.add_zero _

theorem emb11 (n : Fin 16) (d : Fin 128) : (win0_11.blk t).view.emb (ix3 0 n d) = ix3 (bat t) n d := by
  blk_ext [idx_out t]
  exact Nat.add_zero _

theorem emb12 (n : Fin 16) : (win0_12.blk t).view.emb (ix3 0 n 0) = ix3 (bat t) n 0 := by
  blk_ext [idx_out t]
  exact Nat.add_zero _

omit t in
theorem arr8 : (dats m 0 c).arrAt 8 cfg0.N = Value.y (m (c.tc.loc main_arg0)) (m (c.tc.loc main_arg1)) (m (c.tc.loc main_arg2))
    (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after0_8]
  obtain ⟨h, d, rfl⟩ := eta8 y
  refine Eq.trans ?_ (congrArg _ (emb8 t h d)).symm
  rw [Quad.out_at _ _ _ _ _ _ _ _ (Host.blk7 m c t)]
  exact Value.entry_eq _ _ _ _ _ _ _ _ _ _ _ _ _ _ (bat t) (Host.blk0 m c t (bat t) rfl) (Host.blk1 m c t (bat t) rfl) (Host.blk2 m c t (bat t) rfl)
    (Host.blk3 m c t (bat t) rfl) (Host.blk4 m c t (bat t) rfl) (Host.blk5 m c t (bat t) rfl) (Host.blk6 m c t (bat t) rfl) h d

omit t in
theorem arr9 : (dats m 0 c).arrAt 9 cfg0.N = Value.codes (m (c.tc.loc main_arg1)) := by
  refine (dats m 0 c).arrAt_eq_of_covers 9 _ (by decide +kernel) fun t hf y => ?_
  blk_simp
  rw [after0_9]
  frame_out
  obtain ⟨n, d, rfl⟩ := eta9 y
  refine Eq.trans ?_ (congrArg _ (emb9 t n d)).symm
  unfold k0_pay51
  simp (disch := decide) only [View.ld_unit_lit']
  refine (Quant.p8 _ n d).trans ((Quant.kcode _ n d).trans ?_)
  simp only [Host.blk1 m c t (bat t) rfl]
  rfl

omit t in
theorem arr10 : (dats m 0 c).arrAt 10 cfg0.N = Value.scales (m (c.tc.loc main_arg1)) := by
  refine (dats m 0 c).arrAt_eq_of_covers 10 _ (by decide +kernel) fun t hf y => ?_
  blk_simp
  rw [after0_10]
  frame_out
  obtain ⟨n, rfl⟩ := eta10 y
  refine Eq.trans ?_ (congrArg _ (emb10 t n)).symm
  unfold k0_pay50
  simp (disch := decide) only [View.ld_unit_lit']
  refine (Quant.p10 _ n).trans ((Quant.kscale _ n).trans ?_)
  simp only [Host.blk1 m c t (bat t) rfl]
  rfl

omit t in
theorem arr11 : (dats m 0 c).arrAt 11 cfg0.N = Value.codes (m (c.tc.loc main_arg2)) := by
  refine (dats m 0 c).arrAt_eq_of_covers 11 _ (by decide +kernel) fun t hf y => ?_
  blk_simp
  rw [after0_11]
  frame_out
  obtain ⟨n, d, rfl⟩ := eta9 y
  refine Eq.trans ?_ (congrArg _ (emb11 t n d)).symm
  unfold k0_pay53
  simp (disch := decide) only [View.ld_unit_lit']
  refine (Quant.p9 _ n d).trans ((Quant.vcode _ n d).trans ?_)
  simp only [Host.blk2 m c t (bat t) rfl]
  rfl

omit t in
theorem arr12 : (dats m 0 c).arrAt 12 cfg0.N = Value.scales (m (c.tc.loc main_arg2)) := by
  refine (dats m 0 c).arrAt_eq_of_covers 12 _ (by decide +kernel) fun t hf y => ?_
  blk_simp
  rw [after0_12]
  frame_out
  obtain ⟨n, rfl⟩ := eta10 y
  refine Eq.trans ?_ (congrArg _ (emb12 t n)).symm
  unfold k0_pay52
  simp (disch := decide) only [View.ld_unit_lit']
  refine (Quant.p11 _ n).trans ((Quant.vscale _ n).trans ?_)
  simp only [Host.blk2 m c t (bat t) rfl]
  rfl

end Cert.KernelIdeal.Arrays

end
-- ==== Proof.RefRow.lean ====
/- The reference's row at an index: head `h = 8 n + g` of batch `b`, column `d`, as the online softmax of `Softmax.ref`. -/
module

public import proofs.«01_k».proof.Proof.Gen.ReferenceIdeal.Value
public import proofs.«01_k».proof.Proof.Softmax
public import Idealize.ShloMosaic.Lib.Pointwise

@[expose] public section

set_option maxRecDepth 16384

noncomputable section

namespace Cert.ReferenceIdeal.Ref

open Cert.ReferenceIdeal Cert.ReferenceIdeal.Gen Idealize.ShloMosaic

theorem negInf : Ideal.ofBits .f32 0xFF800000#32 = (⊥ : EReal) := by
  simp [Ideal.ofBits, Ideal.ieee]

theorem named_sm : Named.named (F := Ideal) κ "sm_scale" (φ := .f32) 0x3DB504F3#32 = Softmax.sm :=
  IdealRules.named_const.ideal_named_scalar _ _ _ _ rfl

theorem max4' (x : FVec Ideal S32x16x8x1x1024 .f32) (acc : BitVec 32) (h : S32x16x8x1x1024.Reduces [4] S32x16x8x1) (hφ : FKind.Formats .f32) (ha : acc = FKind.maximumf.neutral .f32 hφ) (b : Fin 32) (n : Fin 16) (g : Fin 8) :
    multiReduction (F := Ideal) .maximumf [4] S32x16x8x1 x acc h hφ ha (ix4 b n g 0)
      = Finset.univ.fold max (Ideal.ofBits .f32 acc) (fun t : Fin 1024 => x (ix5 b n g 0 t)) := by
  refine (Ideal.multiReduction_maximumf_single (s := S32x16x8x1x1024) (t := S32x16x8x1) (a := (4 : Fin 5)) x acc h hφ ha (ix4 b n g 0)).trans ?_
  have : (x ∘ h.lift (ix4 b n g 0)) = (fun t : Fin 1024 => x (ix5 b n g 0 t)) := by
    funext t; show x _ = x _; congr 1; funext a; fin_cases a <;> rfl
  rw [this]; rfl

theorem max4 (x : FVec Ideal S32x16x8x1x1024 .f32) (h : S32x16x8x1x1024.Reduces [4] S32x16x8x1) (hφ : FKind.Formats .f32) (ha : 0xFF800000#32 = FKind.maximumf.neutral .f32 hφ) (b : Fin 32) (n : Fin 16) (g : Fin 8) (f : Fin 1024 → EReal)
    (hf : ∀ t, x (ix5 b n g 0 t) = f t) :
    multiReduction (F := Ideal) .maximumf [4] S32x16x8x1 x 0xFF800000#32 h hφ ha (ix4 b n g 0) = Softmax.fmax f := by
  rw [max4', negInf, funext hf]
  exact Softmax.fold_max f

theorem maximumf_at (A M : FVec Ideal S32x16x8x1 .f32) (b : Fin 32) (n : Fin 16) (g : Fin 8) (a m : EReal) (ha : A (ix4 b n g 0) = a) (hm : M (ix4 b n g 0) = m) :
    maximumf (F := Ideal) A M (ix4 b n g 0) = max a m := by
  subst ha; subst hm; rfl

section
variable (q : FVec Ideal S32x1x16x8x128 .bf16) (k v : FVec Ideal S32x2048x16x128 .bf16) (b : Fin 32) (n : Fin 16) (g : Fin 8)

/-- The unscaled score of cached position `t`. -/
def sc (t : Fin 2048) : EReal := ∑ x, k (ix4 b t n x) * q (ix5 b 0 n g x)

/-- The scaled one. -/
abbrev u (t : Fin 2048) : EReal := sc q k b n g t * Softmax.sm

theorem p15 (t : Fin 1024) : k0_pay15 (F := Ideal) q k (ix5 b n g 0 t) = u q k b n g (Softmax.lo t) := by
  rw [u, ← named_sm, sc]
  pointwise [k0_pay15]

theorem p19 (t : Fin 1024) : k0_pay19 (F := Ideal) q k (ix5 b n g 0 t) = u q k b n g (Softmax.hi t) := by
  rw [u, ← named_sm, sc]
  pointwise [k0_pay19]

theorem p14 : k0_pay14 (F := Ideal) (ix4 b n g 0) = (⊥ : EReal) := by
  rw [← negInf]
  pointwise [k0_pay14]

theorem p16_max (X : FVec Ideal S32x16x8x1x1024 .f32) (hX : k0_pay15 (F := Ideal) q k = X) (M : FVec Ideal S32x16x8x1 .f32)
    (hM : multiReduction (F := Ideal) .maximumf [4] S32x16x8x1 X 0xFF800000#32 reduces_S32x16x8x1x1024_S32x16x8x1 (.inl rfl) rfl = M) :
    k0_pay16 (F := Ideal) q k k0_pay14 = maximumf (k0_pay14 (F := Ideal)) M := by
  subst hX; subst hM; rfl

theorem p16 : k0_pay16 (F := Ideal) q k k0_pay14 (ix4 b n g 0) = Softmax.m1 (u q k b n g) := by
  have hM := max4 (k0_pay15 q k) reduces_S32x16x8x1x1024_S32x16x8x1 (.inl rfl) rfl b n g (fun t => u q k b n g (Softmax.lo t)) fun t => p15 q k b n g t
  rw [p16_max q k _ rfl _ rfl]
  generalize multiReduction (F := Ideal) .maximumf [4] S32x16x8x1 (k0_pay15 q k) 0xFF800000#32 _ _ _ = M at hM ⊢
  refine (maximumf_at _ _ b n g _ _ (p14 b n g) hM).trans ?_
  unfold Softmax.m1
  rfl

theorem p20_max (X : FVec Ideal S32x16x8x1x1024 .f32) (hX : k0_pay19 (F := Ideal) q k = X) (M : FVec Ideal S32x16x8x1 .f32)
    (hM : multiReduction (F := Ideal) .maximumf [4] S32x16x8x1 X 0xFF800000#32 reduces_S32x16x8x1x1024_S32x16x8x1 (.inl rfl) rfl = M) :
    k0_pay20 (F := Ideal) q k k0_pay14 = maximumf (k0_pay16 (F := Ideal) q k k0_pay14) M := by
  subst hX; subst hM; rfl

theorem p20 : k0_pay20 (F := Ideal) q k k0_pay14 (ix4 b n g 0) = Softmax.m2 (u q k b n g) := by
  have hM := max4 (k0_pay19 q k) reduces_S32x16x8x1x1024_S32x16x8x1 (.inl rfl) rfl b n g (fun t => u q k b n g (Softmax.hi t)) fun t => p19 q k b n g t
  rw [p20_max q k _ rfl _ rfl]
  generalize multiReduction (F := Ideal) .maximumf [4] S32x16x8x1 (k0_pay19 q k) 0xFF800000#32 _ _ _ = M at hM ⊢
  refine (maximumf_at _ _ b n g _ _ (p16 q k b n g) hM).trans ?_
  unfold Softmax.m2
  rfl

theorem p17_at (m : FVec Ideal S32x16x8x1 .f32) : k0_pay17 (F := Ideal) q k m (ix4 b n g 0)
    = Ideal.exp (m (ix4 b n g 0) - k0_pay16 (F := Ideal) q k m (ix4 b n g 0)) := by
  pointwise [k0_pay17]

theorem p18_at (m : FVec Ideal S32x16x8x1 .f32) (t : Fin 1024) : k0_pay18 (F := Ideal) q k m (ix5 b n g 0 t)
    = Ideal.exp (k0_pay15 (F := Ideal) q k (ix5 b n g 0 t) - k0_pay16 (F := Ideal) q k m (ix4 b n g 0)) := by
  pointwise [k0_pay18]

theorem p21_at (m : FVec Ideal S32x16x8x1 .f32) : k0_pay21 (F := Ideal) q k m (ix4 b n g 0)
    = Ideal.exp (k0_pay16 (F := Ideal) q k m (ix4 b n g 0) - k0_pay20 (F := Ideal) q k m (ix4 b n g 0)) := rfl

theorem p22_at (m : FVec Ideal S32x16x8x1 .f32) (t : Fin 1024) : k0_pay22 (F := Ideal) q k m (ix5 b n g 0 t)
    = Ideal.exp (k0_pay19 (F := Ideal) q k (ix5 b n g 0 t) - k0_pay20 (F := Ideal) q k m (ix4 b n g 0)) := by
  pointwise [k0_pay22]

theorem p23_at (m : FVec Ideal S32x16x8x1 .f32) (z : Ideal .f32) : k0_pay23 (F := Ideal) q k m z (ix4 b n g 0)
    = k0_pay21 (F := Ideal) q k m (ix4 b n g 0) * (k0_pay17 (F := Ideal) q k m (ix4 b n g 0) * z
        + ∑ t, k0_pay18 (F := Ideal) q k m (ix5 b n g 0 t)) + ∑ t, k0_pay22 (F := Ideal) q k m (ix5 b n g 0 t) := by
  pointwise [k0_pay23]

theorem p24_at (m : FVec Ideal S32x16x8x1 .f32) (d : Fin 128) : k0_pay24 (F := Ideal) q k v m (ix5 b n g 0 d)
    = k0_pay21 (F := Ideal) q k m (ix4 b n g 0) * (k0_pay17 (F := Ideal) q k m (ix4 b n g 0) * 0
        + ∑ t, k0_pay18 (F := Ideal) q k m (ix5 b n g 0 t) * v (ix4 b (Softmax.lo t) n d))
      + ∑ t, k0_pay22 (F := Ideal) q k m (ix5 b n g 0 t) * v (ix4 b (Softmax.hi t) n d) := by
  pointwise [k0_pay24]

theorem p17 : k0_pay17 (F := Ideal) q k k0_pay14 (ix4 b n g 0) = Ideal.exp (⊥ - Softmax.m1 (u q k b n g)) := by
  rw [p17_at, p16, p14]

theorem p18 (t : Fin 1024) : k0_pay18 (F := Ideal) q k k0_pay14 (ix5 b n g 0 t)
    = Ideal.exp (u q k b n g (Softmax.lo t) - Softmax.m1 (u q k b n g)) := by
  rw [p18_at, p16, p15]

theorem p21 : k0_pay21 (F := Ideal) q k k0_pay14 (ix4 b n g 0) = Ideal.exp (Softmax.m1 (u q k b n g) - Softmax.m2 (u q k b n g)) := by
  rw [p21_at, p16, p20]

theorem p22 (t : Fin 1024) : k0_pay22 (F := Ideal) q k k0_pay14 (ix5 b n g 0 t)
    = Ideal.exp (u q k b n g (Softmax.hi t) - Softmax.m2 (u q k b n g)) := by
  rw [p22_at, p20, p19]

theorem p23 (z : Ideal .f32) (hz : z = (0 : EReal)) : k0_pay23 (F := Ideal) q k k0_pay14 z (ix4 b n g 0) = Softmax.acc2 (u q k b n g) (fun _ => 1) := by
  subst hz
  unfold Softmax.acc2
  simp only [p23_at, p17, p18, p21, p22, mul_one]

theorem p24 (d : Fin 128) : k0_pay24 (F := Ideal) q k v k0_pay14 (ix5 b n g 0 d) = Softmax.acc2 (u q k b n g) (fun t => v (ix4 b t n d)) := by
  unfold Softmax.acc2
  simp only [p24_at, p17, p18, p21, p22]
end

/-- The last step and the division, from the running maximum `m`, normaliser `l` and sum `a`. -/
def fin (m l a S vn : EReal) : EReal :=
  Ideal.div (Ideal.exp (m - max m (Softmax.fmax fun _ : Fin 1 => S)) * a
      + ∑ _x : Fin 1, Ideal.exp (S - max m (Softmax.fmax fun _ : Fin 1 => S)) * vn)
    (Ideal.exp (m - max m (Softmax.fmax fun _ : Fin 1 => S)) * l
      + ∑ _x : Fin 1, Ideal.exp (S - max m (Softmax.fmax fun _ : Fin 1 => S)))

/-- The causal mask of the single new token lets it through. -/
theorem masked (x y : Ideal .f32) : Scalar.select (Scalar.select (IntOp.cmpi CmpIPredicate.sge (IntOp.addi 0#32 0#32) 0#32) 1#1 0#1) x y = x := by
  have h : Scalar.select (IntOp.cmpi CmpIPredicate.sge (IntOp.addi 0#32 0#32) 0#32) 1#1 0#1 = 1#1 := by decide
  rw [h]
  rfl

theorem p25_at (v9 v28 : FVec Ideal S32x1x16 .f32) (v18 v37 : IVec S32x1x16x128 8) (q : FVec Ideal S32x1x16x8x128 .bf16)
    (m l : FVec Ideal S32x16x8x1 .f32) (a : FVec Ideal S32x16x8x1x128 .f32) (b : Fin 32) (h : Fin 128) (d : Fin 128) :
    k0_pay25 (F := Ideal) v9 v18 v28 v37 q m l a 1#1 (ix3 b h d)
      = fin (m (ix4 b ⟨h.val / 8, by omega⟩ ⟨h.val % 8, by omega⟩ 0)) (l (ix4 b ⟨h.val / 8, by omega⟩ ⟨h.val % 8, by omega⟩ 0))
          (a (ix5 b ⟨h.val / 8, by omega⟩ ⟨h.val % 8, by omega⟩ 0 d))
          ((∑ x, ((v18 (ix4 b 0 ⟨h.val / 8, by omega⟩ x)).toInt : ℝ) * v9 (ix3 b 0 ⟨h.val / 8, by omega⟩) * q (ix5 b 0 ⟨h.val / 8, by omega⟩ ⟨h.val % 8, by omega⟩ x)) * Softmax.sm)
          (((v37 (ix4 b 0 ⟨h.val / 8, by omega⟩ d)).toInt : ℝ) * v28 (ix3 b 0 ⟨h.val / 8, by omega⟩)) := by
  unfold fin
  simp only [← Softmax.fold_max]
  rw [← named_sm, ← negInf]
  pointwise [k0_pay25]
  simp only [masked, Fin.sum_univ_one]
  rfl

theorem p25 (v9 v28 : FVec Ideal S32x1x16 .f32) (v18 v37 : IVec S32x1x16x128 8) (q : FVec Ideal S32x1x16x8x128 .bf16)
    (k v : FVec Ideal S32x2048x16x128 .bf16) (z : Ideal .f32) (hz : z = (0 : EReal)) (b : Fin 32) (h : Fin 128) (d : Fin 128) :
    k0_pay25 (F := Ideal) v9 v18 v28 v37 q (k0_pay20 q k k0_pay14) (k0_pay23 q k k0_pay14 z) (k0_pay24 q k v k0_pay14) 1#1 (ix3 b h d)
      = Softmax.ref (sc q k b ⟨h.val / 8, by omega⟩ ⟨h.val % 8, by omega⟩)
          (∑ x, ((v18 (ix4 b 0 ⟨h.val / 8, by omega⟩ x)).toInt : ℝ) * v9 (ix3 b 0 ⟨h.val / 8, by omega⟩) * q (ix5 b 0 ⟨h.val / 8, by omega⟩ ⟨h.val % 8, by omega⟩ x))
          (fun t => v (ix4 b t ⟨h.val / 8, by omega⟩ d))
          (((v37 (ix4 b 0 ⟨h.val / 8, by omega⟩ d)).toInt : ℝ) * v28 (ix3 b 0 ⟨h.val / 8, by omega⟩)) := by
  rw [p25_at, p20, p23 q k b _ _ z hz, p24]
  unfold Softmax.ref Softmax.m3 fin
  simp only [mul_one]

end Cert.ReferenceIdeal.Ref

end
-- ==== Proof.RefArray.lean ====
/- The reference's five result arrays are the same functions of the arguments. -/
module

public import proofs.«01_k».proof.Proof.KernelArray
public import proofs.«01_k».proof.Proof.RefRow
public import proofs.«01_k».proof.Proof.Gen.ReferenceIdeal.Value

@[expose] public section

set_option maxRecDepth 16384

noncomputable section

namespace Cert.ReferenceIdeal.Arrays

open Cert.ReferenceIdeal Cert.ReferenceIdeal.Gen Idealize.ShloMosaic

/-- The body's attention payload at an index: the reference's online softmax row, which is the kernel's. -/
theorem pay_at (x0 : Vec Ideal S32x1x16x8x128 .bf16) (a0 : Vec Ideal S32x1x16384 .bf16) (a1 a2 : Vec Ideal S32x1x16x128 .bf16)
    (a3 : Vec Ideal S32x2048x16x128 .i8) (a4 : Vec Ideal S32x2048x16 .f32) (a5 : Vec Ideal S32x2048x16x128 .i8) (a6 : Vec Ideal S32x2048x16 .f32)
    (h0 : ∀ (b : Fin 32) (h x : Fin 128), x0 (ix5 b 0 ⟨h.val / 8, by omega⟩ ⟨h.val % 8, by omega⟩ x) = a0 (ix3 b 0 ⟨h.val * 128 + x.val, by omega⟩))
    (z : Ideal .f32) (hz : z = (0 : EReal)) (b : Fin 32) (h d : Fin 128) :
    k0_pay25 (F := Ideal) (k0_pay2 a1) (k0_pay3 a1) (k0_pay5 a2) (k0_pay6 a2) (k0_pay11 x0) (k0_pay20 (k0_pay11 x0) (k0_pay12 a3 a4) k0_pay14)
        (k0_pay23 (k0_pay11 x0) (k0_pay12 a3 a4) k0_pay14 z) (k0_pay24 (k0_pay11 x0) (k0_pay12 a3 a4) (k0_pay13 a5 a6) k0_pay14) 1#1 (ix3 b h d)
      = Value.yAt a0 a1 a2 a3 a4 a5 a6 b h d := by
  rw [Ref.p25 _ _ _ _ _ _ _ z hz, ← Softmax.ker_eq_ref]
  unfold Value.yAt Value.deq Ref.sc
  simp only [Quant.p11, Quant.p12, Quant.p13, Quant.kscale, Quant.kcode, Quant.vscale, Quant.vcode, h0]
  congr 1
  · funext t
    exact Finset.sum_congr rfl fun x _ => mul_comm _ _
  · exact Finset.sum_congr rfl fun x _ => mul_comm _ _

variable (m : (ℓ : Loc nD τ sig) → Buf (Elt Ideal) ℓ) (c : Dev nD)

theorem q_at (b : Fin 32) (h x : Fin 128) : V m c main_v0 (ix5 b 0 ⟨h.val / 8, by omega⟩ ⟨h.val % 8, by omega⟩ x)
    = m (c.tc.loc main_arg0) (ix3 b 0 ⟨h.val * 128 + x.val, by omega⟩) := by
  entry_read
  pointwise
  exact congrArg _ (congrArg _ (Fin.ext (by show h.val / 8 * 1024 + h.val % 8 * 128 + x.val = h.val * 128 + x.val; omega)))

theorem idx : ∀ t : Fin cfg0.N, win0_0.index t = ![0, 0, 0, 0, 0] ∧ win0_1.index t = ![0, 0, 0, 0] ∧ win0_2.index t = ![0, 0, 0, 0]
    ∧ win0_3.index t = ![0, 0, 0, 0] ∧ win0_4.index t = ![0, 0, 0] ∧ win0_5.index t = ![0, 0, 0, 0] ∧ win0_6.index t = ![0, 0, 0]
    ∧ win0_7.index t = ![0, 0, 0] ∧ win0_8.index t = ![0, 0, 0] ∧ win0_9.index t = ![0, 0, 0] ∧ win0_10.index t = ![0, 0, 0]
    ∧ win0_11.index t = ![0, 0, 0] := by
  decide +kernel

variable (t : Fin cfg0.N)

theorem blk0 : iblk m c 0 t = V m c main_v0 := by
  funext i
  blk_ext [iblk, idx t]

theorem blk1 : iblk m c 1 t = m (c.tc.loc main_arg1) := by
  rw [← V_main_arg1 m c]
  funext i
  blk_ext [iblk, idx t]

theorem blk2 : iblk m c 2 t = m (c.tc.loc main_arg2) := by
  rw [← V_main_arg2 m c]
  funext i
  blk_ext [iblk, idx t]

theorem blk3 : iblk m c 3 t = m (c.tc.loc main_arg3) := by
  rw [← V_main_arg3 m c]
  funext i
  blk_ext [iblk, idx t]

theorem blk4 : iblk m c 4 t = m (c.tc.loc main_arg4) := by
  rw [← V_main_arg4 m c]
  funext i
  blk_ext [iblk, idx t]

theorem blk5 : iblk m c 5 t = m (c.tc.loc main_arg5) := by
  rw [← V_main_arg5 m c]
  funext i
  blk_ext [iblk, idx t]

theorem blk6 : iblk m c 6 t = m (c.tc.loc main_arg6) := by
  rw [← V_main_arg6 m c]
  funext i
  blk_ext [iblk, idx t]

theorem emb7 (i : S32x128x128.Idx) : (win0_7.blk t).view.emb i = i := by
  blk_ext [idx t]

theorem emb8 (i : S32x16x128.Idx) : (win0_8.blk t).view.emb i = i := by
  blk_ext [idx t]

theorem emb9 (i : S32x16x1.Idx) : (win0_9.blk t).view.emb i = i := by
  blk_ext [idx t]

theorem emb10 (i : S32x16x128.Idx) : (win0_10.blk t).view.emb i = i := by
  blk_ext [idx t]

theorem emb11 (i : S32x16x1.Idx) : (win0_11.blk t).view.emb i = i := by
  blk_ext [idx t]

theorem eta7 (x : S32x128x128.Idx) : ∃ (b : Fin 32) (h d : Fin 128), x = ix3 b h d :=
  ⟨x 0, x 1, x 2, by funext a; fin_cases a <;> rfl⟩

theorem eta8 (x : S32x16x128.Idx) : ∃ (b : Fin 32) (n : Fin 16) (d : Fin 128), x = ix3 b n d :=
  ⟨x 0, x 1, x 2, by funext a; fin_cases a <;> rfl⟩

theorem eta9 (x : S32x16x1.Idx) : ∃ (b : Fin 32) (n : Fin 16), x = ix3 b n 0 :=
  ⟨x 0, x 1, by funext a; fin_cases a <;> first | rfl | exact Subsingleton.elim (α := Fin 1) _ _⟩

theorem zero_bits : (FloatOps.ofBits FTy.f32 0#32 : Ideal .f32) = (0 : EReal) := by
  show Ideal.ofBits .f32 0#32 = 0
  simp [Ideal.ofBits, Ideal.ieee]

omit t in
theorem arr7 : (dats m 0 c).arrAt 7 cfg0.N = Value.y (m (c.tc.loc main_arg0)) (m (c.tc.loc main_arg1)) (m (c.tc.loc main_arg2))
    (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after0_7]
  frame_out
  obtain ⟨b, h, d, rfl⟩ := eta7 y
  refine Eq.trans ?_ (congrArg _ (emb7 t (ix3 b h d))).symm
  rw [blk1, blk2, blk3, blk4, blk5, blk6]
  unfold k0_pay26 k0_pay27 k0_pay28 k0_pay29 k0_pay30 k0_pay31
  simp (disch := decide) only [View.ld_unit_lit']
  refine pay_at _ _ _ _ _ _ _ _ (fun b h x => ?_) _ zero_bits b h d
  rw [blk0]
  exact q_at m c b h x

omit t in
theorem arr8 : (dats m 0 c).arrAt 8 cfg0.N = Value.codes (m (c.tc.loc main_arg1)) := by
  refine (dats m 0 c).arrAt_eq_of_covers 8 _ (by decide +kernel) fun t hf y => ?_
  blk_simp
  rw [after0_8]
  frame_out
  obtain ⟨b, n, d, rfl⟩ := eta8 y
  refine Eq.trans ?_ (congrArg _ (emb8 t (ix3 b n d))).symm
  rw [blk1]
  exact (Quant.p7 _ b n d).trans (Quant.kcode _ b n d)

omit t in
theorem arr9 : (dats m 0 c).arrAt 9 cfg0.N = Value.scales (m (c.tc.loc main_arg1)) := by
  refine (dats m 0 c).arrAt_eq_of_covers 9 _ (by decide +kernel) fun t hf y => ?_
  blk_simp
  rw [after0_9]
  frame_out
  obtain ⟨b, n, rfl⟩ := eta9 y
  refine Eq.trans ?_ (congrArg _ (emb9 t (ix3 b n 0))).symm
  unfold k0_pay26
  simp (disch := decide) only [View.ld_unit_lit']
  rw [blk1]
  exact (Quant.p8 _ b n).trans (Quant.kscale _ b n)

omit t in
theorem arr10 : (dats m 0 c).arrAt 10 cfg0.N = Value.codes (m (c.tc.loc main_arg2)) := by
  refine (dats m 0 c).arrAt_eq_of_covers 10 _ (by decide +kernel) fun t hf y => ?_
  blk_simp
  rw [after0_10]
  frame_out
  obtain ⟨b, n, d, rfl⟩ := eta8 y
  refine Eq.trans ?_ (congrArg _ (emb10 t (ix3 b n d))).symm
  unfold k0_pay28
  simp (disch := decide) only [View.ld_unit_lit']
  rw [blk2]
  exact (Quant.p9 _ b n d).trans (Quant.vcode _ b n d)

omit t in
theorem arr11 : (dats m 0 c).arrAt 11 cfg0.N = Value.scales (m (c.tc.loc main_arg2)) := by
  refine (dats m 0 c).arrAt_eq_of_covers 11 _ (by decide +kernel) fun t hf y => ?_
  blk_simp
  rw [after0_11]
  frame_out
  obtain ⟨b, n, rfl⟩ := eta9 y
  refine Eq.trans ?_ (congrArg _ (emb11 t (ix3 b n 0))).symm
  unfold k0_pay27
  simp (disch := decide) only [View.ld_unit_lit']
  rw [blk2]
  exact (Quant.p10 _ b n).trans (Quant.vscale _ b n)

end Cert.ReferenceIdeal.Arrays

end
-- ==== Proof.Algebraic.lean ====
/- The two programs' results are equal as extended reals: both are the functions `Value.y`, `Value.codes` and `Value.scales` of
   the arguments. -/
module

public import proofs.«01_k».proof.Defs
public import proofs.«01_k».proof.Proof.Gen.KernelIdeal
public import proofs.«01_k».proof.Proof.Gen.ReferenceIdeal
public import proofs.«01_k».proof.Proof.RefArray

@[expose] public section

noncomputable section

namespace Cert.Proof

open Idealize.ShloMosaic Idealize.SL.Sem

theorem algebraic : Cert.algebraic_KernelIdeal_ReferenceIdeal (hKernelIdeal := Cert.KernelIdeal.Gen.facts) (hReferenceIdeal := Cert.ReferenceIdeal.Gen.facts) := by
  intro m g m' g' _ hagree
  refine ⟨fun c => (Cert.KernelIdeal.Gen.dats m 0 c).arrAt 8 _, fun c => (Cert.KernelIdeal.Gen.dats m 0 c).arrAt 9 _,
    fun c => (Cert.KernelIdeal.Gen.dats m 0 c).arrAt 10 _, fun c => (Cert.KernelIdeal.Gen.dats m 0 c).arrAt 11 _,
    fun c => (Cert.KernelIdeal.Gen.dats m 0 c).arrAt 12 _, Cert.KernelIdeal.Value.run_blocks m g, ?_⟩
  refine θ_run_mono (Cert.ReferenceIdeal.Value.run_blocks m' g') fun r hr c => ?_
  obtain ⟨h0, h1, h2, h3, h4, hargs⟩ := hr c
  obtain ⟨e0, e1, e2, e3, e4, e5, e6⟩ := hagree c
  refine ⟨h0.trans ?_, h1.trans ?_, h2.trans ?_, h3.trans ?_, h4.trans ?_, hargs⟩
  · rw [Cert.ReferenceIdeal.Arrays.arr7, e0, e1, e2, e3, e4, e5, e6]
    exact (Cert.KernelIdeal.Arrays.arr8 m c).symm
  · rw [Cert.ReferenceIdeal.Arrays.arr8, e1]
    exact (Cert.KernelIdeal.Arrays.arr9 m c).symm
  · rw [Cert.ReferenceIdeal.Arrays.arr9, e1]
    exact (Cert.KernelIdeal.Arrays.arr10 m c).symm
  · rw [Cert.ReferenceIdeal.Arrays.arr10, e2]
    exact (Cert.KernelIdeal.Arrays.arr11 m c).symm
  · rw [Cert.ReferenceIdeal.Arrays.arr11, e2]
    exact (Cert.KernelIdeal.Arrays.arr12 m c).symm

end Cert.Proof

end
-- ==== Proof.lean ====
/- The proof of the certificate's claim: the frames of the four programs are the generated ones, each `preserves` is the
   `named_const` rule's statement at its constant, and the equality of the results is `Cert.Proof.algebraic`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Reference
public import proofs.«01_k».proof.Proof.Gen.Reference.Frame
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Reference.Gen.facts,
    fun m ρ _ => Cert.Kernel.Gen.frame m ρ,
    fun m ρ _ => Cert.KernelIdeal.Gen.frame m ρ,
    fun m ρ _ => Cert.ReferenceIdeal.Gen.frame m ρ,
    fun m ρ _ => Cert.Reference.Gen.frame m ρ,
    IdealRules.named_const.statement Cert.KernelIdeal.κ "exp2_scale" .f32 0x3E0293EE#32
      (((Real.sqrt 128)⁻¹ * (Real.log 2)⁻¹ : ℝ) : EReal) rfl,
    IdealRules.named_const.statement Cert.ReferenceIdeal.κ "sm_scale" .f32 0x3DB504F3#32
      (((Real.sqrt 128)⁻¹ : ℝ) : EReal) rfl,
    algebraic⟩

end Cert.Proof

end
